-- ==== Defs.lean ====
def Pre_Kernel [hPre_batch_named : Cert.Pre_batch_named.Facts] (m : (ℓ : Loc Cert.Kernel.nD Cert.Kernel.τ Cert.Kernel.sig) → Buf (Elt Bits) ℓ) : Prop :=
  ∀ c : Dev Cert.Kernel.nD,
    (Cert.Pre_batch_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_batch_named : Cert.Pre_batch_named.Facts] (m : (ℓ : Loc Cert.KernelIdeal.nD Cert.KernelIdeal.τ Cert.KernelIdeal.sig) → Buf (Elt Ideal) ℓ) : Prop :=
  ∀ c : Dev Cert.KernelIdeal.nD,
    (Cert.Pre_batch_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_named [hPre_batch_named : Cert.Pre_batch_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_batch_named : Cert.Pre_batch_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_batch_named : Cert.Pre_batch_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_batch_named [hReferenceIdeal : Cert.ReferenceIdeal.Facts] [hPre_batch_named : Cert.Pre_batch_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_batch_named : Cert.Pre_batch_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_batch_named : Cert.Pre_batch_named.Facts),
    quiescent_Kernel (hKernel := hKernel) (hPre_batch_named := hPre_batch_named)
    ∧ quiescent_KernelIdeal (hKernelIdeal := hKernelIdeal) (hPre_batch_named := hPre_batch_named)
    ∧ quiescent_ReferenceIdeal (hReferenceIdeal := hReferenceIdeal)
    ∧ quiescent_ReferenceIdeal_pre_batch_named (hReferenceIdeal := hReferenceIdeal) (hPre_batch_named := hPre_batch_named)
    ∧ preserves_Kernel_KernelIdeal
    ∧ algebraic_KernelIdeal_ReferenceIdeal (hKernelIdeal := hKernelIdeal) (hReferenceIdeal := hReferenceIdeal) (hPre_batch_named := hPre_batch_named)
-- ==== Pre_batch_named.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  main_v1
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S25x1x4000 : Shape := ⟨3, ![25, 1, 4000]⟩
abbrev S1x64 : Shape := ⟨2, ![1, 64]⟩
abbrev S1x1 : Shape := ⟨2, ![1, 1]⟩
abbrev S1024x128 : Shape := ⟨2, ![1024, 128]⟩
abbrev S4000x128 : Shape := ⟨2, ![4000, 128]⟩
abbrev S1x1x4000 : Shape := ⟨3, ![1, 1, 4000]⟩
abbrev S1024x1 : Shape := ⟨2, ![1024, 1]⟩
abbrev S4000x64 : Shape := ⟨2, ![4000, 64]⟩
abbrev S4000x1 : Shape := ⟨2, ![4000, 1]⟩
abbrev S1x4000 : Shape := ⟨2, ![1, 4000]⟩
abbrev S1x1x1 : Shape := ⟨3, ![1, 1, 1]⟩
abbrev S128x1 : Shape := ⟨2, ![128, 1]⟩
abbrev S128x4000 : Shape := ⟨2, ![128, 4000]⟩
abbrev S128x128 : Shape := ⟨2, ![128, 128]⟩
abbrev S1024x4000 : Shape := ⟨2, ![1024, 4000]⟩

abbrev nBuf : Space → Nat
  | .hbm => 10
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S25x1x4000, .i32⟩
  | .hbm, ⟨7, _⟩ => ⟨S1x64, .f32⟩
  | .hbm, ⟨8, _⟩ => ⟨S1x1, .f32⟩
  | .hbm, ⟨9, _⟩ => ⟨S1024x128, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S1024x128, .f32⟩
  | .local _ .vmem, ⟨9, _⟩ => ⟨S1024x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_off1 (v29 : BitVec 32) : Fin 2 → Nat :=
  let c0_i32_17 : BitVec 32 := 0#32
  let v31 : BitVec 1 := Scalar.cmpi .sgt v29 c0_i32_17
  let v32 : BitVec 32 := Scalar.extui v31
  let c0_i32_18 : BitVec 32 := 0#32
  let v33 : BitVec 1 := Scalar.cmpi .slt v29 c0_i32_18
  let v34 : BitVec 32 := Scalar.extui v33
  let v35 : BitVec 32 := Scalar.subi v32 v34
  let c8_i32 : BitVec 32 := 8#32
  let c0_i32_19 : BitVec 32 := 0#32
  let v36 : BitVec 1 := Scalar.cmpi .sgt c8_i32 c0_i32_19
  let v37 : BitVec 32 := Scalar.extui v36
  let c0_i32_20 : BitVec 32 := 0#32
  let v38 : BitVec 1 := Scalar.cmpi .slt c8_i32 c0_i32_20
  let v39 : BitVec 32 := Scalar.extui v38
  let v40 : BitVec 32 := Scalar.subi v37 v39
  let v41 : BitVec 1 := Scalar.cmpi .ne v35 v40
  let v42 : BitVec 32 := Scalar.remsi v29 c8_i32
  let c0_i32_21 : BitVec 32 := 0#32
  let v43 : BitVec 1 := Scalar.cmpi .ne v42 c0_i32_21
  let v44 : BitVec 1 := Scalar.andi v41 v43
  let v30 : BitVec 32 := Scalar.divsi v29 c8_i32
  let c1_i32 : BitVec 32 := 1#32
  let v45 : BitVec 32 := Scalar.subi v30 c1_i32
  let v46 : BitVec 32 := Scalar.select v44 v45 v30
  let c8_i32_22 : BitVec 32 := 8#32
  let v47 : BitVec 32 := Scalar.muli v46 c8_i32_22
  let c896_i32 : BitVec 32 := 896#32
  let v48 : BitVec 32 := Scalar.minsi v47 c896_i32
  let v76 : Index := Scalar.indexCast v48
  let c0_29 : Index := 0#32
  ![v76.toNat, 0]
def k0_cond2 (v29 : BitVec 32) (v52 : BitVec 32) : BitVec 1 :=
  let c0_i32_17 : BitVec 32 := 0#32
  let v31 : BitVec 1 := Scalar.cmpi .sgt v29 c0_i32_17
  let v32 : BitVec 32 := Scalar.extui v31
  let c0_i32_18 : BitVec 32 := 0#32
  let v33 : BitVec 1 := Scalar.cmpi .slt v29 c0_i32_18
  let v34 : BitVec 32 := Scalar.extui v33
  let v35 : BitVec 32 := Scalar.subi v32 v34
  let c8_i32 : BitVec 32 := 8#32
  let c0_i32_19 : BitVec 32 := 0#32
  let v36 : BitVec 1 := Scalar.cmpi .sgt c8_i32 c0_i32_19
  let v37 : BitVec 32 := Scalar.extui v36
  let c0_i32_20 : BitVec 32 := 0#32
  let v38 : BitVec 1 := Scalar.cmpi .slt c8_i32 c0_i32_20
  let v39 : BitVec 32 := Scalar.extui v38
  let v40 : BitVec 32 := Scalar.subi v37 v39
  let v41 : BitVec 1 := Scalar.cmpi .ne v35 v40
  let v42 : BitVec 32 := Scalar.remsi v29 c8_i32
  let c0_i32_21 : BitVec 32 := 0#32
  let v43 : BitVec 1 := Scalar.cmpi .ne v42 c0_i32_21
  let v44 : BitVec 1 := Scalar.andi v41 v43
  let v30 : BitVec 32 := Scalar.divsi v29 c8_i32
  let c1_i32 : BitVec 32 := 1#32
  let v45 : BitVec 32 := Scalar.subi v30 c1_i32
  let v46 : BitVec 32 := Scalar.select v44 v45 v30
  let c8_i32_22 : BitVec 32 := 8#32
  let v47 : BitVec 32 := Scalar.muli v46 c8_i32_22
  let c896_i32 : BitVec 32 := 896#32
  let v48 : BitVec 32 := Scalar.minsi v47 c896_i32
  let v53 : BitVec 32 := Scalar.subi v52 v48
  let c128_i32 : BitVec 32 := 128#32
  let v54 : BitVec 1 := Scalar.cmpi .sge v53 c128_i32
  let v_true : BitVec 1 := 1#1
  let v57 : BitVec 1 := Scalar.xori v54 v_true
  let v58 : BitVec 32 := Scalar.extui v57
  let c0_i32_24 : BitVec 32 := 0#32
  let v59 : BitVec 1 := Scalar.cmpi .ne v58 c0_i32_24
  v59

def k0_off2 (v29 : BitVec 32) : Fin 2 → Nat :=
  let c0_i32_17 : BitVec 32 := 0#32
  let v31 : BitVec 1 := Scalar.cmpi .sgt v29 c0_i32_17
  let v32 : BitVec 32 := Scalar.extui v31
  let c0_i32_18 : BitVec 32 := 0#32
  let v33 : BitVec 1 := Scalar.cmpi .slt v29 c0_i32_18
  let v34 : BitVec 32 := Scalar.extui v33
  let v35 : BitVec 32 := Scalar.subi v32 v34
  let c8_i32 : BitVec 32 := 8#32
  let c0_i32_19 : BitVec 32 := 0#32
  let v36 : BitVec 1 := Scalar.cmpi .sgt c8_i32 c0_i32_19
  let v37 : BitVec 32 := Scalar.extui v36
  let c0_i32_20 : BitVec 32 := 0#32
  let v38 : BitVec 1 := Scalar.cmpi .slt c8_i32 c0_i32_20
  let v39 : BitVec 32 := Scalar.extui v38
  let v40 : BitVec 32 := Scalar.subi v37 v39
  let v41 : BitVec 1 := Scalar.cmpi .ne v35 v40
  let v42 : BitVec 32 := Scalar.remsi v29 c8_i32
  let c0_i32_21 : BitVec 32 := 0#32
  let v43 : BitVec 1 := Scalar.cmpi .ne v42 c0_i32_21
  let v44 : BitVec 1 := Scalar.andi v41 v43
  let v30 : BitVec 32 := Scalar.divsi v29 c8_i32
  let c1_i32 : BitVec 32 := 1#32
  let v45 : BitVec 32 := Scalar.subi v30 c1_i32
  let v46 : BitVec 32 := Scalar.select v44 v45 v30
  let c8_i32_22 : BitVec 32 := 8#32
  let v47 : BitVec 32 := Scalar.muli v46 c8_i32_22
  let c896_i32 : BitVec 32 := 896#32
  let v48 : BitVec 32 := Scalar.minsi v47 c896_i32
  let v82 : Index := Scalar.indexCast v48
  let c0_31 : Index := 0#32
  ![v82.toNat, 0]

def k0_chk1 (v29 : BitVec 32) (v52 : BitVec 32) : Prop :=
  (∀ (k0_h2 : k0_cond2 v29 v52 = 1#1), ∀ a, (k0_off1 v29) a + S128x128.size a ≤ S1024x128.size a) ∧
  (∀ (k0_h2 : k0_cond2 v29 v52 = 1#1), ∀ a, (k0_off2 v29) a + S128x1.size a ≤ S1024x1.size a)
theorem k0_off1_inb : ∀ (v29 : BitVec 32) (v52 : BitVec 32) (k0_hw1 : k0_chk1 v29 v52), ∀ (k0_h2 : k0_cond2 v29 v52 = 1#1), ∀ a, (k0_off1 v29) a + S128x128.size a ≤ S1024x128.size a := fun v29 v52 k0_hw1 k0_h2 => k0_hw1.1 k0_h2
theorem k0_off2_inb : ∀ (v29 : BitVec 32) (v52 : BitVec 32) (k0_hw1 : k0_chk1 v29 v52), ∀ (k0_h2 : k0_cond2 v29 v52 = 1#1), ∀ a, (k0_off2 v29) a + S128x1.size a ≤ S1024x1.size a := fun v29 v52 k0_hw1 k0_h2 => k0_hw1.2 k0_h2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S1x100000 : Shape := ⟨2, ![1, 100000]⟩
abbrev S1024 : Shape := ⟨1, ![1024]⟩
abbrev S1024x1 : Shape := ⟨2, ![1024, 1]⟩
abbrev S1024x100000 : Shape := ⟨2, ![1024, 100000]⟩
abbrev S1024x128 : Shape := ⟨2, ![1024, 128]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S100000x64, .f32⟩
  | .hbm, ⟨12, _⟩ => ⟨S100000x64, .i1⟩
  | .hbm, ⟨13, _⟩ => ⟨S_, .f32⟩
  | .hbm, ⟨14, _⟩ => ⟨S100000x64, .f32⟩
  | .hbm, ⟨15, _⟩ => ⟨S100000x64, .f32⟩
  | .hbm, ⟨16, _⟩ => ⟨S100000x64, .f32⟩
  | .hbm, ⟨17, _⟩ => ⟨S100000x1, .f32⟩
  | .hbm, ⟨18, _⟩ => ⟨S1x1, .f32⟩
  | .hbm, ⟨19, _⟩ => ⟨S100000x1, .f32⟩
  | .hbm, ⟨20, _⟩ => ⟨S100000x1, .f32⟩
  | .hbm, ⟨21, _⟩ => ⟨S100000, .f32⟩
  | .hbm, ⟨22, _⟩ => ⟨S1x100000, .i32⟩
  | .hbm, ⟨23, _⟩ => ⟨S1024, .i32⟩
  | .hbm, ⟨24, _⟩ => ⟨S1024x1, .i32⟩
  | .hbm, ⟨25, _⟩ => ⟨S1024x100000, .i32⟩
  | .hbm, ⟨26, _⟩ => ⟨S1024x100000, .i32⟩
  | .hbm, ⟨27, _⟩ => ⟨S1024x100000, .i1⟩
  | .hbm, ⟨28, _⟩ => ⟨S1x100000, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .i1⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S1024, .i1⟩
  | .hbm, ⟨43, _⟩ => ⟨S_, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S1024, .f32⟩
  | .hbm, ⟨60, _⟩ => ⟨S100000x1, .i32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .i32⟩
  | .hbm, ⟨68, _⟩ => ⟨S100000, .i32⟩
  | .hbm, ⟨69, _⟩ => ⟨S100000, .i1⟩
  | .hbm, ⟨70, _⟩ => ⟨S_, .i32⟩
  | .hbm, ⟨71, _⟩ => ⟨S100000, .i32⟩
  | .hbm, ⟨72, _⟩ => ⟨S100000, .i32⟩
  | .hbm, ⟨73, _⟩ => ⟨S100000, .i32⟩
  | .hbm, ⟨74, _⟩ => ⟨S100000x1, .i32⟩
  | .hbm, ⟨75, _⟩ => ⟨S100000, .f32⟩
  | .hbm, ⟨76, _⟩ => ⟨S_, .i32⟩
  | .hbm, ⟨77, _⟩ => ⟨S100000, .i32⟩
  | .hbm, ⟨78, _⟩ => ⟨S100000, .i1⟩
  | .hbm, ⟨79, _⟩ => ⟨S_, .i32⟩
  | .hbm, ⟨80, _⟩ => ⟨S100000, .i32⟩
  | .hbm, ⟨81, _⟩ => ⟨S100000, .i32⟩
  | .hbm, ⟨82, _⟩ => ⟨S100000, .i32⟩
  | .hbm, ⟨83, _⟩ => ⟨S100000x1, .i32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S1024x128, .f32⟩
  | .hbm, ⟨92, _⟩ => ⟨S100000x1, .i32⟩
  | .hbm, ⟨93, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Proof.KI.Body.lean ====
/- One grid point of the kernel as a function: what the body leaves in its result block and in its table of
   denominators, from the six input blocks and from what the two held before, and the proof that the body does that. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ReadBack

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open VecWindow (window put)

variable {F : FTy → Type} [FloatOps F]

local notation "𝕄" => MT nD τ sig Unit (Elt F) ℕ (UR sig nD τ) ℕ

/-- The grid's first point, as the body asks it. -/
abbrev atFirst (i : grid0.Coords) : Prop :=
  Scalar.cmpi .ne (Scalar.extui (Scalar.cmpi .eq (BitVec.ofNat 32 (i 0).val) 0#32)) 0#32 = 1#1

/-- The grid's last point, as the body asks it. -/
abbrev atLast (i : grid0.Coords) : Prop :=
  Scalar.cmpi .ne (Scalar.extui (Scalar.cmpi .eq (BitVec.ofNat 32 (i 0).val) 24#32)) 0#32 = 1#1

/-- The least segment number of a block of rows. -/
abbrev low (b : Vec F S1x1x4000 .i32) : BitVec 32 := extractAt ![0, 0, 0] (k0_pay16 b) inpos_S1x1x1_p0_0_0

/-- The greatest segment number of a block of rows. -/
abbrev high (b : Vec F S1x1x4000 .i32) : BitVec 32 := extractAt ![0, 0, 0] (k0_pay1 (k0_pay15 b)) inpos_S1x1x1_p0_0_0

/-- The question "does the block reach past the window", as the body asks it. -/
abbrev overBit (lo hi : BitVec 32) : BitVec 1 :=
  Scalar.cmpi .sge (Scalar.subi hi (Scalar.minsi (Scalar.muli (Scalar.select
      (Scalar.andi
        (Scalar.cmpi .ne
          (Scalar.subi (Scalar.extui (Scalar.cmpi .sgt lo 0#32)) (Scalar.extui (Scalar.cmpi .slt lo 0#32)))
          (Scalar.subi (Scalar.extui (Scalar.cmpi .sgt 8#32 0#32)) (Scalar.extui (Scalar.cmpi .slt 8#32 0#32))))
        (Scalar.cmpi .ne (Scalar.remsi lo 8#32) 0#32))
      (Scalar.subi (Scalar.divsi lo 8#32) 1#32) (Scalar.divsi lo 8#32)) 8#32) 896#32)) 128#32

/-- The condition under which all rows of the table are updated. -/
abbrev wide (lo hi : BitVec 32) : Prop := Scalar.cmpi .ne (Scalar.extui (overBit lo hi)) 0#32 = 1#1

/-- The window is taken exactly when the whole table is not. -/
theorem not_wide_iff (lo hi : BitVec 32) : ¬ wide lo hi ↔ k0_cond2 lo hi = 1#1 := by
  have e : k0_cond2 lo hi = Scalar.cmpi .ne (Scalar.extui (Scalar.xori (overBit lo hi) 1#1)) 0#32 := rfl
  rw [e]
  unfold wide
  generalize overBit lo hi = b
  revert b
  decide

/-- The weights `exp a` of the rows of a block. -/
abbrev weights (x0 : Vec F S4000x128 .f32) (x2 : Vec F S128x64 .f32) (x3 : Vec F S1x64 .f32) (x4 : Vec F S64x1 .f32)
    (x5 : Vec F S1x1 .f32) : FVec F S4000x1 .f32 := k0_pay13 x0 x2 x3 x4 x5

/-- The denominators after a point: zero before the first, then the block's weights added row by row of the table. -/
def denNext (i : grid0.Coords) (x0 : Vec F S4000x128 .f32) (b : Vec F S1x1x4000 .i32) (x2 : Vec F S128x64 .f32)
    (x3 : Vec F S1x64 .f32) (x4 : Vec F S64x1 .f32) (x5 : Vec F S1x1 .f32) (s : Vec F S1024x1 .f32) : Vec F S1024x1 .f32 :=
  let s₀ : Vec F S1024x1 .f32 := if atFirst i then k0_pay12 else s
  if h : k0_chk1 (low b) (high b) ∧ k0_cond2 (low b) (high b) = 1#1 then
    put s₀ (k0_off2 (low b)) S128x1.size
      (k0_pay6 (weights x0 x2 x3 x4 x5) (k0_pay15 b) (low b) 8#32 (Scalar.divsi (low b) 8#32)
        (Scalar.extui (Scalar.cmpi .sgt (low b) 0#32)) (Scalar.extui (Scalar.cmpi .slt (low b) 0#32))
        (window s₀ (k0_off2 (low b)) S128x1.size (k0_off2_inb _ _ h.1 h.2)))
  else k0_pay9 (weights x0 x2 x3 x4 x5) (k0_pay15 b) s₀

/-- The weighted sums after a point, before the last point's division. -/
def sumNext (i : grid0.Coords) (x0 : Vec F S4000x128 .f32) (b : Vec F S1x1x4000 .i32) (x2 : Vec F S128x64 .f32)
    (x3 : Vec F S1x64 .f32) (x4 : Vec F S64x1 .f32) (x5 : Vec F S1x1 .f32) (o : Vec F S1024x128 .f32) : Vec F S1024x128 .f32 :=
  let o₀ : Vec F S1024x128 .f32 := if atFirst i then k0_pay11 else o
  if h : k0_chk1 (low b) (high b) ∧ k0_cond2 (low b) (high b) = 1#1 then
    put o₀ (k0_off1 (low b)) S128x128.size
      (k0_pay5 (k0_pay14 x0 x2 x3 x4 x5) (k0_pay15 b) (low b) 8#32 (Scalar.divsi (low b) 8#32)
        (Scalar.extui (Scalar.cmpi .sgt (low b) 0#32)) (Scalar.extui (Scalar.cmpi .slt (low b) 0#32))
        (window o₀ (k0_off1 (low b)) S128x128.size (k0_off1_inb _ _ h.1 h.2)))
  else k0_pay8 (k0_pay14 x0 x2 x3 x4 x5) (k0_pay15 b) o₀

/-- What the result block holds after a point: the weighted sums, at the last point divided by the denominators. -/
def outNext (i : grid0.Coords) (x0 : Vec F S4000x128 .f32) (b : Vec F S1x1x4000 .i32) (x2 : Vec F S128x64 .f32)
    (x3 : Vec F S1x64 .f32) (x4 : Vec F S64x1 .f32) (x5 : Vec F S1x1 .f32) (o : Vec F S1024x128 .f32) (s : Vec F S1024x1 .f32) :
    Vec F S1024x128 .f32 :=
  if atLast i then k0_pay10 (sumNext i x0 b x2 x3 x4 x5 o) (denNext i x0 b x2 x3 x4 x5 s) else sumNext i x0 b x2 x3 x4 x5 o

/-- A read-modify-write of one window of a buffer: afterwards the buffer reads what it read before with the window's new
    contents, computed from its old ones, put there. -/
theorem read_update {s : Shape} {e : EltTy} (v : View sig .tc .vmem s e) (f : v.ty.Contents (Elt F))
    (L : List (View.Piece (Elt F) s e)) (X : s.Idx → Elt F e) (hX : v.read (Elt F) (v.writes (Elt F) f L) = X)
    {off off' size : Fin s.rank → ℕ} (inb inb₁ : ∀ a, off a + size a ≤ s.size a) (h : off = off') (inb' : ∀ a, off' a + size a ≤ s.size a)
    (g : ((Rect.unit off' size inb').shape.Idx → Elt F e) → (Rect.unit off' size inb').shape.Idx → Elt F e) :
    v.read (Elt F) (v.writes (Elt F) f
        ((⟨Rect.unit off size inb, g (v.readAt (Elt F) (Rect.unit off size inb₁).toLoadRect (v.writes (Elt F) f L))⟩ : View.Piece (Elt F) s e) :: L))
      = put X off' size (g (window X off' size inb')) := by
  subst h
  rw [View.read_writes_cons_put _ _ _ _ _ rfl, hX, View.readAt_unit _ _ _ rfl inb', hX]

set_option maxHeartbeats 4000000 in
/-- The body at one point, on whole buffers: where the block's segment numbers meet the printed side condition it ends
    with its inputs as they were, the result block at `outNext` and the denominators at `denNext`. -/
theorem body_run (c : Dev nD) (i : grid0.Coords) (arg1 : Memref sig .tc .vmem S4000x128 .f32) (harg1 : arg1.IsWhole)
    (arg2 : Memref sig .tc .vmem S1x1x4000 .i32) (harg2 : arg2.IsWhole) (arg3 : Memref sig .tc .vmem S128x64 .f32) (harg3 : arg3.IsWhole)
    (arg4 : Memref sig .tc .vmem S1x64 .f32) (harg4 : arg4.IsWhole) (arg5 : Memref sig .tc .vmem S64x1 .f32) (harg5 : arg5.IsWhole)
    (arg6 : Memref sig .tc .vmem S1x1 .f32) (harg6 : arg6.IsWhole) (arg7 : Memref sig .tc .vmem S1024x128 .f32) (harg7 : arg7.IsWhole)
    (arg8 : Memref sig .tc .vmem S1024x1 .f32) (harg8 : arg8.IsWhole)
    (x0 : Vec F S4000x128 .f32) (x1 : Vec F S1x1x4000 .i32) (x2 : Vec F S128x64 .f32) (x3 : Vec F S1x64 .f32) (x4 : Vec F S64x1 .f32)
    (x5 : Vec F S1x1 .f32) (o : Vec F S1024x128 .f32) (s : Vec F S1024x1 .f32) (hne : ¬ (atFirst i ∧ atLast i))
    (hchk : k0_chk1 (low x1) (high x1)) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare o ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outNext i x0 x1 x2 x3 x4 x5 o s)
            ∗ owns (c : Thread nD τ) arg8 fullShare (denNext i x0 x1 x2 x3 x4 x5 s)) -∗ K ⟨⟩))
      ⊢ wp frame (wpE (defs₀ (F := F)) Variants.none c none) E
          (cc0__attn_pool_kernel i arg1 harg1 arg2 harg2 arg3 harg3 arg4 harg4 arg5 harg5 arg6 harg6 arg7 harg7 arg8 harg8) K := by
  have hx0 : View.readAt (Elt F) arg1.view (Rect.unit (s := S4000x128) ![0, 0] S4000x128.size inb_S4000x128_S4000x128_0_0).toLoadRect (harg1.unread x0) = x0 := by
    rw [View.readAt_full]; exact harg1.read_unread _
  have hx1 : View.readAt (Elt F) arg2.view (Rect.unit (s := S1x1x4000) ![0, 0, 0] S1x1x4000.size inb_S1x1x4000_S1x1x4000_0_0_0).toLoadRect (harg2.unread x1) = x1 := by
    rw [View.readAt_full]; exact harg2.read_unread _
  have hx2 : View.readAt (Elt F) arg3.view (Rect.unit (s := S128x64) ![0, 0] S128x64.size inb_S128x64_S128x64_0_0).toLoadRect (harg3.unread x2) = x2 := by
    rw [View.readAt_full]; exact harg3.read_unread _
  have hx3 : View.readAt (Elt F) arg4.view (Rect.unit (s := S1x64) ![0, 0] S1x64.size inb_S1x64_S1x64_0_0).toLoadRect (harg4.unread x3) = x3 := by
    rw [View.readAt_full]; exact harg4.read_unread _
  have hx4 : View.readAt (Elt F) arg5.view (Rect.unit (s := S64x1) ![0, 0] S64x1.size inb_S64x1_S64x1_0_0).toLoadRect (harg5.unread x4) = x4 := by
    rw [View.readAt_full]; exact harg5.read_unread _
  have hx5 : View.readAt (Elt F) arg6.view (Rect.unit (s := S1x1) ![0, 0] S1x1.size inb_S1x1_S1x1_0_0).toLoadRect (harg6.unread x5) = x5 := by
    rw [View.readAt_full]; exact harg6.read_unread _
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  by_cases h1 : k0_cond2 (low x1) (high x1) = 1#1
  · have hw : ¬ wide (low x1) (high x1) := (not_wide_iff _ _).mpr h1
    by_cases h0 : atFirst i
    · have h2 : ¬ atLast i := fun h => hne ⟨h0, h⟩
      sl_exec (disch := first | sl_exact h0 | sl_exact hchk | sl_exact h1 | sl_exact hw | sl_exact h2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr
        swap; · iexact H6
        ipureintro
        sl_unfold_words
        unfold outNext; rw [if_neg h2]; unfold sumNext; rw [dif_pos (show k0_chk1 (low x1) (high x1) ∧ k0_cond2 (low x1) (high x1) = 1#1 from ⟨hchk, h1⟩), if_pos h0]
        exact read_update arg7.view _ _ _ (View.read_writes_full _ _ _ _ _) _ _ rfl (k0_off1_inb _ _ hchk h1) (k0_pay5 (k0_pay14 x0 x2 x3 x4 x5) (k0_pay15 x1) (low x1) 8#32 (Scalar.divsi (low x1) 8#32) (Scalar.extui (Scalar.cmpi .sgt (low x1) 0#32)) (Scalar.extui (Scalar.cmpi .slt (low x1) 0#32)))
      · iexists _; isplitr
        swap; · iexact H7
        ipureintro
        sl_unfold_words
        unfold denNext; rw [dif_pos (show k0_chk1 (low x1) (high x1) ∧ k0_cond2 (low x1) (high x1) = 1#1 from ⟨hchk, h1⟩), if_pos h0]
        exact read_update arg8.view _ _ _ (View.read_writes_full _ _ _ _ _) _ _ rfl (k0_off2_inb _ _ hchk h1) (k0_pay6 (weights x0 x2 x3 x4 x5) (k0_pay15 x1) (low x1) 8#32 (Scalar.divsi (low x1) 8#32) (Scalar.extui (Scalar.cmpi .sgt (low x1) 0#32)) (Scalar.extui (Scalar.cmpi .slt (low x1) 0#32)))
    · by_cases h2 : atLast i
      · sl_exec (disch := first | sl_exact h0 | sl_exact hchk | sl_exact h1 | sl_exact hw | sl_exact h2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr
          swap; · iexact H6
          ipureintro
          sl_unfold_words
          refine (View.read_writes_full _ _ _ _ _).trans ?_
          unfold outNext; rw [if_pos h2]
          refine congrArg₂ k0_pay10 ((View.readAt_full _ _ _).trans ?_) ((View.readAt_full _ _ _).trans ?_)
          · unfold sumNext; rw [dif_pos (show k0_chk1 (low x1) (high x1) ∧ k0_cond2 (low x1) (high x1) = 1#1 from ⟨hchk, h1⟩), if_neg h0]
            exact read_update arg7.view _ _ _ (harg7.read_unread _) _ _ rfl (k0_off1_inb _ _ hchk h1) (k0_pay5 (k0_pay14 x0 x2 x3 x4 x5) (k0_pay15 x1) (low x1) 8#32 (Scalar.divsi (low x1) 8#32) (Scalar.extui (Scalar.cmpi .sgt (low x1) 0#32)) (Scalar.extui (Scalar.cmpi .slt (low x1) 0#32)))
          · unfold denNext; rw [dif_pos (show k0_chk1 (low x1) (high x1) ∧ k0_cond2 (low x1) (high x1) = 1#1 from ⟨hchk, h1⟩), if_neg h0]
            exact read_update arg8.view _ _ _ (harg8.read_unread _) _ _ rfl (k0_off2_inb _ _ hchk h1) (k0_pay6 (weights x0 x2 x3 x4 x5) (k0_pay15 x1) (low x1) 8#32 (Scalar.divsi (low x1) 8#32) (Scalar.extui (Scalar.cmpi .sgt (low x1) 0#32)) (Scalar.extui (Scalar.cmpi .slt (low x1) 0#32)))
        · iexists _; isplitr
          swap; · iexact H7
          ipureintro
          sl_unfold_words
          unfold denNext; rw [dif_pos (show k0_chk1 (low x1) (high x1) ∧ k0_cond2 (low x1) (high x1) = 1#1 from ⟨hchk, h1⟩), if_neg h0]
          exact read_update arg8.view _ _ _ (harg8.read_unread _) _ _ rfl (k0_off2_inb _ _ hchk h1) (k0_pay6 (weights x0 x2 x3 x4 x5) (k0_pay15 x1) (low x1) 8#32 (Scalar.divsi (low x1) 8#32) (Scalar.extui (Scalar.cmpi .sgt (low x1) 0#32)) (Scalar.extui (Scalar.cmpi .slt (low x1) 0#32)))
      · sl_exec (disch := first | sl_exact h0 | sl_exact hchk | sl_exact h1 | sl_exact hw | sl_exact h2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr
          swap; · iexact H6
          ipureintro
          sl_unfold_words
          unfold outNext; rw [if_neg h2]; unfold sumNext; rw [dif_pos (show k0_chk1 (low x1) (high x1) ∧ k0_cond2 (low x1) (high x1) = 1#1 from ⟨hchk, h1⟩), if_neg h0]
          exact read_update arg7.view _ _ _ (harg7.read_unread _) _ _ rfl (k0_off1_inb _ _ hchk h1) (k0_pay5 (k0_pay14 x0 x2 x3 x4 x5) (k0_pay15 x1) (low x1) 8#32 (Scalar.divsi (low x1) 8#32) (Scalar.extui (Scalar.cmpi .sgt (low x1) 0#32)) (Scalar.extui (Scalar.cmpi .slt (low x1) 0#32)))
        · iexists _; isplitr
          swap; · iexact H7
          ipureintro
          sl_unfold_words
          unfold denNext; rw [dif_pos (show k0_chk1 (low x1) (high x1) ∧ k0_cond2 (low x1) (high x1) = 1#1 from ⟨hchk, h1⟩), if_neg h0]
          exact read_update arg8.view _ _ _ (harg8.read_unread _) _ _ rfl (k0_off2_inb _ _ hchk h1) (k0_pay6 (weights x0 x2 x3 x4 x5) (k0_pay15 x1) (low x1) 8#32 (Scalar.divsi (low x1) 8#32) (Scalar.extui (Scalar.cmpi .sgt (low x1) 0#32)) (Scalar.extui (Scalar.cmpi .slt (low x1) 0#32)))
  · have hw : wide (low x1) (high x1) := Classical.not_not.mp fun h => h1 ((not_wide_iff _ _).mp h)
    by_cases h0 : atFirst i
    · have h2 : ¬ atLast i := fun h => hne ⟨h0, h⟩
      sl_exec (disch := first | sl_exact h0 | sl_exact hchk | sl_exact h1 | sl_exact hw | sl_exact h2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr
        swap; · iexact H6
        ipureintro
        sl_unfold_words
        unfold outNext; rw [if_neg h2]; unfold sumNext; rw [dif_neg (show ¬ (k0_chk1 (low x1) (high x1) ∧ k0_cond2 (low x1) (high x1) = 1#1) from fun h => h1 h.2), if_pos h0]
        refine (View.read_writes_full _ _ _ _ _).trans ?_
        exact congrArg _ (View.readCov_full _ _ _ _ _)
      · iexists _; isplitr
        swap; · iexact H7
        ipureintro
        sl_unfold_words
        unfold denNext; rw [dif_neg (show ¬ (k0_chk1 (low x1) (high x1) ∧ k0_cond2 (low x1) (high x1) = 1#1) from fun h => h1 h.2), if_pos h0]
        refine (View.read_writes_full _ _ _ _ _).trans ?_
        exact congrArg _ (View.readCov_full _ _ _ _ _)
    · by_cases h2 : atLast i
      · sl_exec (disch := first | sl_exact h0 | sl_exact hchk | sl_exact h1 | sl_exact hw | sl_exact h2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr
          swap; · iexact H6
          ipureintro
          sl_unfold_words
          refine (View.read_writes_full _ _ _ _ _).trans ?_
          unfold outNext; rw [if_pos h2]
          refine congrArg₂ k0_pay10 ((View.readCov_full _ _ _ _ _).trans ?_) ((View.readCov_full _ _ _ _ _).trans ?_)
          · unfold sumNext; rw [dif_neg (show ¬ (k0_chk1 (low x1) (high x1) ∧ k0_cond2 (low x1) (high x1) = 1#1) from fun h => h1 h.2), if_neg h0]
            exact congrArg _ ((View.readAt_full _ _ _).trans (harg7.read_unread _))
          · unfold denNext; rw [dif_neg (show ¬ (k0_chk1 (low x1) (high x1) ∧ k0_cond2 (low x1) (high x1) = 1#1) from fun h => h1 h.2), if_neg h0]
            exact congrArg _ ((View.readAt_full _ _ _).trans (harg8.read_unread _))
        · iexists _; isplitr
          swap; · iexact H7
          ipureintro
          sl_unfold_words
          unfold denNext; rw [dif_neg (show ¬ (k0_chk1 (low x1) (high x1) ∧ k0_cond2 (low x1) (high x1) = 1#1) from fun h => h1 h.2), if_neg h0]
          refine (View.read_writes_full _ _ _ _ _).trans ?_
          exact congrArg _ ((View.readAt_full _ _ _).trans (harg8.read_unread _))
      · sl_exec (disch := first | sl_exact h0 | sl_exact hchk | sl_exact h1 | sl_exact hw | sl_exact h2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr
          swap; · iexact H6
          ipureintro
          sl_unfold_words
          unfold outNext; rw [if_neg h2]; unfold sumNext; rw [dif_neg (show ¬ (k0_chk1 (low x1) (high x1) ∧ k0_cond2 (low x1) (high x1) = 1#1) from fun h => h1 h.2), if_neg h0]
          refine (View.read_writes_full _ _ _ _ _).trans ?_
          exact congrArg _ ((View.readAt_full _ _ _).trans (harg7.read_unread _))
        · iexists _; isplitr
          swap; · iexact H7
          ipureintro
          sl_unfold_words
          unfold denNext; rw [dif_neg (show ¬ (k0_chk1 (low x1) (high x1) ∧ k0_cond2 (low x1) (high x1) = 1#1) from fun h => h1 h.2), if_neg h0]
          refine (View.read_writes_full _ _ _ _ _).trans ?_
          exact congrArg _ ((View.readAt_full _ _ _).trans (harg8.read_unread _))

end Cert.KernelIdeal.Pool

end
-- ==== Proof.KI.Run.lean ====
/- The launch run over the body of `Body.lean`: what the result block and the denominators hold after each grid point,
   the pipeline's data, and the frame claim, for any values and any memory whose blocks of segment numbers meet the
   body's side condition. -/
module

public import proofs.«01_k».proof.Proof.KI.Body
public import proofs.«01_k».proof.Proof.Gen.KernelIdeal.Points
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point is the only one at which the body starts its sums afresh. -/
theorem atFirst_iff (t : Fin cfg0.N) : atFirst (grid0.coords t) ↔ t.val = 0 := by
  have ht : t.val < 25 := Nat.lt_of_lt_of_eq t.isLt N_0
  have e0 : (grid0.coords t 0).val = t.val / 1 % 25 := Pipeline.Grid.coords_val t 0 (by decide) rfl
  have : atFirst (grid0.coords t) ↔ t.val % 25 = 0 := by
    simp only [atFirst, e0]
    word_cmp
  rw [this]; omega

/-- The last point is the only one at which the body divides. -/
theorem atLast_iff (t : Fin cfg0.N) : atLast (grid0.coords t) ↔ t.val = 24 := by
  have ht : t.val < 25 := Nat.lt_of_lt_of_eq t.isLt N_0
  have e0 : (grid0.coords t 0).val = t.val / 1 % 25 := Pipeline.Grid.coords_val t 0 (by decide) rfl
  have : atLast (grid0.coords t) ↔ t.val % 25 = 24 := by
    simp only [atLast, e0]
    word_cmp
  rw [this]; omega

/-- The side condition the body assumes at a point, of the block of segment numbers it reads there. -/
def Meets (c : Dev nD) : Prop := ∀ t : Fin cfg0.N, k0_chk1 (low (iblk m c 1 t)) (high (iblk m c 1 t))

/-- One grid point as a step on what the result block and the denominators hold. -/
def stepAt (c : Dev nD) (t : Fin cfg0.N) (p : Vec F S1024x128 .f32 × Vec F S1024x1 .f32) : Vec F S1024x128 .f32 × Vec F S1024x1 .f32 :=
  (outNext (grid0.coords t) (iblk m c 0 t) (iblk m c 1 t) (iblk m c 2 t) (iblk m c 3 t) (iblk m c 4 t) (iblk m c 5 t) p.1 p.2,
   denNext (grid0.coords t) (iblk m c 0 t) (iblk m c 1 t) (iblk m c 2 t) (iblk m c 3 t) (iblk m c 4 t) (iblk m c 5 t) p.2)

/-- At the first point the step does not look at what the two held before. -/
theorem stepAt_first (c : Dev nD) (t : Fin cfg0.N) (ht : t.val = 0) (p q : Vec F S1024x128 .f32 × Vec F S1024x1 .f32) :
    stepAt m c t p = stepAt m c t q := by
  have h0 := (atFirst_iff t).mpr ht
  unfold stepAt outNext sumNext denNext
  simp only [if_pos h0]

/-- What the result block and the denominators hold after the body at point `n`. -/
def held (c : Dev nD) : (n : ℕ) → n < cfg0.N → Vec F S1024x128 .f32 × Vec F S1024x1 .f32
  | 0, hn => stepAt m c ⟨0, hn⟩ (k0_pay11, k0_pay12)
  | n + 1, hn => stepAt m c ⟨n + 1, hn⟩ (held c n (Nat.lt_of_succ_lt hn))

/-- After the first point the two hold one step from anything. -/
theorem held_first (c : Dev nD) (t : Fin cfg0.N) (ht : t.val = 0) (p : Vec F S1024x128 .f32 × Vec F S1024x1 .f32) :
    held m c t.val t.isLt = stepAt m c t p := by
  obtain ⟨n, hn⟩ := t
  cases n with
  | zero => exact stepAt_first m c _ rfl _ _
  | succ n => exact absurd ht (Nat.succ_ne_zero n)

/-- After a later point the two hold one step from what the point before left. -/
theorem held_later (c : Dev nD) (t : Fin cfg0.N) (ht : t.val ≠ 0) :
    held m c t.val t.isLt = stepAt m c t (held m c (t.val - 1) (Nat.lt_of_le_of_lt (Nat.sub_le _ _) t.isLt)) := by
  obtain ⟨n, hn⟩ := t
  cases n with
  | zero => exact absurd rfl ht
  | succ n => rfl

/-- The kernel's table of denominators as a memory reference. -/
abbrev table : Memref sig .tc .vmem S1024x1 .f32 := Memref.whole cc0_scratch0

/-- The scratch memory at any contents: the table of denominators and the generator register. -/
theorem rest_eq (c : Dev nD) :
    (Pipeline.ΦA spec0 c : sProp 𝕄)
      = iprop(iprop((∃ d, owns (c : Thread nD τ) table fullShare d)) ∗ (∃ r, prngReg c r)) := by
  unfold Pipeline.ΦA; rw [scopedRest0_eq]; simp only [table, owns_whole]; try rfl

/-- What is kept between points: the table of denominators, named after the first point, and the generator register. -/
def Kept (c : Dev nD) : (n : ℕ) → n ≤ cfg0.N → sProp 𝕄
  | 0, _ => Pipeline.ΦA spec0 c
  | n + 1, hn => iprop(iprop(owns (c : Thread nD τ) table fullShare ((held m c n hn).2)) ∗ (∃ r, prngReg c r))

theorem Kept_zero (c : Dev nD) (n : ℕ) (h : n ≤ cfg0.N) (hz : n = 0) : Kept m c n h = Pipeline.ΦA spec0 c := by
  subst hz; rfl

theorem Kept_pos (c : Dev nD) (n : ℕ) (h : n ≤ cfg0.N) (hz : n ≠ 0) :
    Kept m c n h = iprop(iprop(owns (c : Thread nD τ) table fullShare ((held m c (n - 1) (by omega)).2)) ∗ (∃ r, prngReg c r)) := by
  cases n with
  | zero => exact absurd rfl hz
  | succ n => rfl

/-- The pipeline's data on core `c`: each input block as it was fetched, the result block at `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (held m c t.val t.isLt).1
  Φ t := Kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (held m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- After the first point the result block holds what the point before left: it is written back at the last point only. -/
theorem before6 (c : Dev nD) (t : Fin cfg0.N) (h0 : t.val ≠ 0) (d) :
    (dats m 0 c).before 6 t d = (held m c (t.val - 1) (Nat.lt_of_le_of_lt (Nat.sub_le _ _) t.isLt)).1 := by
  have hN : t.val < 25 := lt_of_lt_of_eq t.isLt (show cfg0.N = 25 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a point, window by window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- No point is both the first and the last. -/
theorem not_both (t : Fin cfg0.N) : ¬ (atFirst (grid0.coords t) ∧ atLast (grid0.coords t)) := fun h => by
  have h0 := (atFirst_iff t).mp h.1
  have h1 := (atLast_iff t).mp h.2
  omega

set_option maxHeartbeats 4000000 in
/-- The body at any point takes what it is called with to what it returns. -/
theorem sound_body (c : Dev nD) (hb : Meets m c) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = iprop(iprop(owns (c : Thread nD τ) table fullShare ((held m c t.val t.isLt).2)) ∗ (∃ r, prngReg c r)) from rfl,
    show (dats m 0 c).Φ t.castSucc = Kept m c t.val (Nat.le_of_lt t.isLt) from rfl]
  by_cases h0 : t.val = 0
  · rw [Kept_zero m c _ _ h0, rest_eq]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩⟩
    rw [held_first m c t h0 ((dats m 0 c).before 6 t d6, s)]
    iapply (body_run c (grid0.coords t) _ _ _ _ _ _ _ _ _ _ _ _ _ _ _ _ (iblk m c 0 t) (iblk m c 1 t) (iblk m c 2 t) (iblk m c 3 t)
      (iblk m c 4 t) (iblk m c 5 t) ((dats m 0 c).before 6 t d6) s (not_both t) (hb t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Kept_pos m c _ _ h0]
    simp only [before6 m c t h0]
    rw [held_later m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body_run c (grid0.coords t) _ _ _ _ _ _ _ _ _ _ _ _ _ _ _ _ (iblk m c 0 t) (iblk m c 1 t) (iblk m c 2 t) (iblk m c 3 t)
      (iblk m c 4 t) (iblk m c 5 t) (held m c (t.val - 1) (Nat.lt_of_le_of_lt (Nat.sub_le _ _) t.isLt)).1
      (held m c (t.val - 1) (Nat.lt_of_le_of_lt (Nat.sub_le _ _) t.isLt)).2 (not_both t) (hb t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The table of bodies at a point is the body on that point's buffers. -/
theorem row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) (hb : Meets m c) : BodyObligation (dats (F := F) m 0 c) (defs₀ (F := F)) Variants.none () Set.univ := fun t => by
  rw [bigSep_W0, bigSep_W0, row]
  exact triple_restated (sound_body m c hb t) rfl .rfl fun _ => .rfl

/-- What the launch hands over is what is kept before the first point. -/
theorem kept_in (c : Dev nD) : Pipeline.ΦA spec0 c ⊢ (dats m 0 c).Φ 0 := by
  rw [show (dats m 0 c).Φ 0 = Kept m c 0 (Nat.zero_le _) from rfl, Kept_zero m c 0 _ rfl]

/-- What is kept after the last point gives the launch its scratch memory back. -/
theorem kept_out (c : Dev nD) : (dats m 0 c).Φ (Fin.last cfg0.N) ⊢ Pipeline.ΦA spec0 c := by
  have hz : (Fin.last cfg0.N).val ≠ 0 := by rw [Fin.val_last]; have : cfg0.N = 25 := N_0; omega
  rw [show (dats m 0 c).Φ (Fin.last cfg0.N) = Kept m c (Fin.last cfg0.N).val (Nat.le_of_lt_succ (Fin.last cfg0.N).isLt) from rfl,
    Kept_pos m c _ _ hz, rest_eq]
  iintro ⟨HS, Hg⟩
  isplitl [HS]
  · iexists _; iexact HS
  iexact Hg

set_option backward.isDefEq.respectTransparency.types false in
/-- The launch: every fair run ends, every array as the pipeline's data says and every counter at zero. -/
theorem run_main (hb : ∀ c, Meets m c) : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c (hb c)).loose) (hshare := fun c => (dats m 0 c).share_full fun _ => rfl)
    (howed := fun _ _ => rfl) (V := V m) (hmain := hmain m Variants.none) (hA := A_eq m) (hin := kept_in m) (hout := kept_out m)

/-- The frame claim at any values: the arguments end as they were and every counter at zero. -/
theorem frame_run (hb : ∀ c, Meets m c) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) ((θ_run defs _ _).mono (fun _ h => h.1) (run_main m ρ hb)))
    ((θ_run defs _ _).mono (fun _ h => h.2) (run_main m ρ hb))

end Cert.KernelIdeal.Pool

end
-- ==== Proof.KI.Blocks.lean ====
/- What the pipeline hands the body at a point, element by element, in terms of the arguments. -/
module

public import proofs.«01_k».proof.Proof.KI.Run
public import Idealize.ShloMosaic.Lib.Pipeline.ValueKit

@[expose] public section

set_option maxRecDepth 16384

noncomputable section

namespace Cert.KernelIdeal.Pool

open Idealize.ShloMosaic Idealize.ShloMosaic.TcCoe Idealize.ShloMosaic.Tactic
open Cert.KernelIdeal.Gen

variable {F : FTy → Type} [FloatOps F]
variable (m : (ℓ : Loc nD τ sig) → Buf (Elt F) ℓ)

/-- A grid point is less than 25. -/
theorem point_lt (t : Fin cfg0.N) : t.val < 25 := Nat.lt_of_lt_of_eq t.isLt N_0

theorem idx0 : ∀ t : Fin cfg0.N, win0_0.index t = ![t.val, 0] := by decide +kernel
theorem idx1 : ∀ t : Fin cfg0.N, win0_1.index t = ![t.val, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel

/-- Row `j` of the block of `x` at point `t` is row `4000 t + j` of `x`. -/
theorem blk_x (c : Dev nD) (t : Fin cfg0.N) (j : Fin 4000) (d : Fin 128) :
    iblk m c 0 t (ix2 j d) = m ((c : Thread nD τ).loc main_arg0) (ix2 ⟨t.val * 4000 + j.val, by have := point_lt t; omega⟩ d) := by
  blk_ext [iblk, V, idx0 t]

/-- Entry `j` of the block of segment numbers at point `t` is entry `4000 t + j`. -/
theorem blk_batch (c : Dev nD) (t : Fin cfg0.N) (j : Fin 4000) :
    iblk m c 1 t (ix3 0 0 j) = m ((c : Thread nD τ).loc main_arg1) (ix1 ⟨t.val * 4000 + j.val, by have := point_lt t; omega⟩) := by
  blk_simp [iblk, idx1 t]
  entry_read
  pointwise
  blk_ext [idx1 t]

theorem blk_W1 (c : Dev nD) (t : Fin cfg0.N) (d : Fin 128) (h : Fin 64) :
    iblk m c 2 t (ix2 d h) = m ((c : Thread nD τ).loc main_arg2) (ix2 d h) := by
  blk_ext [iblk, V, idx2 t]

theorem blk_b1 (c : Dev nD) (t : Fin cfg0.N) (h : Fin 64) :
    iblk m c 3 t (ix2 0 h) = m ((c : Thread nD τ).loc main_arg3) (ix1 h) := by
  blk_simp [iblk, idx3 t]
  entry_read
  pointwise
  blk_ext [idx3 t]

theorem blk_W2 (c : Dev nD) (t : Fin cfg0.N) (h : Fin 64) :
    iblk m c 4 t (ix2 h 0) = m ((c : Thread nD τ).loc main_arg4) (ix2 h 0) := by
  blk_ext [iblk, V, idx4 t]

theorem blk_b2 (c : Dev nD) (t : Fin cfg0.N) :
    iblk m c 5 t (ix2 0 0) = m ((c : Thread nD τ).loc main_arg5) (ix1 0) := by
  blk_simp [iblk, idx5 t]
  entry_read
  pointwise
  blk_ext [idx5 t]

end Cert.KernelIdeal.Pool

end
-- ==== Proof.KI.Words.lean ====
/- The kernel's integer words: the row its window of segments starts at, and when the block's segments fit the window. -/
module

public import proofs.«01_k».proof.Proof.KI.Body
public import Idealize.ShloMosaic.Lib.WordArith
public import Idealize.ShloMosaic.Lib.SortNet.Extract
public import Idealize.ShloMosaic.Lib.Pointwise.Reshape
public import Idealize.ShloMosaic.PureOps.Reduce

@[expose] public section

set_option maxRecDepth 16384

noncomputable section

namespace Cert.KernelIdeal.Pool

open Idealize.ShloMosaic Idealize.ShloMosaic.TcCoe
open Cert.KernelIdeal.Gen

/-- The word the window of segments starts at, from the least segment number of the block. -/
def start (lo : BitVec 32) : BitVec 32 :=
  Scalar.minsi (Scalar.muli (Scalar.select
    (Scalar.andi
      (Scalar.cmpi .ne (Scalar.subi (Scalar.extui (Scalar.cmpi .sgt lo 0#32)) (Scalar.extui (Scalar.cmpi .slt lo 0#32)))
        (Scalar.subi (Scalar.extui (Scalar.cmpi .sgt 8#32 0#32)) (Scalar.extui (Scalar.cmpi .slt 8#32 0#32))))
      (Scalar.cmpi .ne (Scalar.remsi lo 8#32) 0#32))
    (Scalar.subi (Scalar.divsi lo 8#32) 1#32) (Scalar.divsi lo 8#32)) 8#32) 896#32

theorem off1_eq (lo : BitVec 32) : k0_off1 lo = ![(start lo).toNat, 0] := rfl
theorem off2_eq (lo : BitVec 32) : k0_off2 lo = ![(start lo).toNat, 0] := rfl

/-- Dividing a word that is not negative by eight, rounding down. -/
theorem floor_eight (lo : BitVec 32) (h : 0 ≤ lo.toInt) :
    (Scalar.select
    (Scalar.andi
      (Scalar.cmpi .ne (Scalar.subi (Scalar.extui (Scalar.cmpi .sgt lo 0#32)) (Scalar.extui (Scalar.cmpi .slt lo 0#32)))
        (Scalar.subi (Scalar.extui (Scalar.cmpi .sgt 8#32 0#32)) (Scalar.extui (Scalar.cmpi .slt 8#32 0#32))))
      (Scalar.cmpi .ne (Scalar.remsi lo 8#32) 0#32))
    (Scalar.subi (Scalar.divsi lo 8#32) 1#32) (Scalar.divsi lo 8#32)) = lo / 8#32 := by
  have hm : lo.msb = false := by rw [BitVec.msb_eq_toInt]; simpa using h
  have hnc : ¬ IntOp.SDivCorner lo 8#32 := by
    unfold IntOp.SDivCorner
    intro hc
    rcases hc with hc | hc
    · exact absurd hc (by decide)
    · exact absurd hc.2 (by decide)
  have hd : Scalar.divsi lo 8#32 = lo / 8#32 := by
    show IntOp.divsi _ _ _ = _
    unfold IntOp.divsi
    rw [if_neg hnc, BitVec.sdiv_eq, hm]
    rfl
  by_cases hz : lo = 0#32
  · subst hz; decide
  · have hs : BitVec.slt lo 0#32 = false := by
      rw [BitVec.slt]; simpa using h
    have hp : BitVec.slt 0#32 lo = true := by
      rw [BitVec.slt]
      have : lo.toInt ≠ 0 := fun e => hz (BitVec.eq_of_toInt_eq (by simpa using e))
      simp; omega
    have hc : (Scalar.cmpi .ne (Scalar.subi (Scalar.extui (Scalar.cmpi .sgt lo 0#32)) (Scalar.extui (Scalar.cmpi .slt lo 0#32)))
        (Scalar.subi (Scalar.extui (Scalar.cmpi .sgt 8#32 0#32)) (Scalar.extui (Scalar.cmpi .slt 8#32 0#32)))) = 0#1 := by
      rw [show Scalar.cmpi .sgt lo 0#32 = 1#1 from by show BitVec.ofBool (BitVec.slt 0#32 lo) = _; rw [hp]; rfl,
        show Scalar.cmpi .slt lo 0#32 = 0#1 from by show BitVec.ofBool (BitVec.slt lo 0#32) = _; rw [hs]; rfl]
      decide
    rw [hc, hd]
    generalize Scalar.cmpi .ne (Scalar.remsi lo 8#32) 0#32 = q
    have : Scalar.andi 0#1 q = 0#1 := by revert q; decide
    rw [this]
    rfl

/-- The window starts at the least segment number rounded down to a multiple of eight, or at 896 if that is less. -/
theorem start_toNat (lo : BitVec 32) (h : 0 ≤ lo.toInt) : (start lo).toNat = min (lo.toNat / 8 * 8) 896 := by
  have hb : lo.toNat < 2 ^ 31 := by
    have e := BitVec.toInt_eq_toNat_cond lo; have := lo.isLt; omega
  unfold start
  rw [floor_eight lo h]
  have hq : (Scalar.muli (lo / 8#32) 8#32).toNat = lo.toNat / 8 * 8 := by
    show (lo / 8#32 * 8#32).toNat = _
    rw [BitVec.toNat_mul, BitVec.toNat_udiv]
    show lo.toNat / 8 * 8 % 2 ^ 32 = _
    apply Nat.mod_eq_of_lt; omega
  show (IntOp.minsi _ _).toNat = _
  rw [WordArith.toNat_minsi_of_lt _ _ (by rw [hq]; omega) (by decide), hq]
  rfl

theorem start_toInt (lo : BitVec 32) (h : 0 ≤ lo.toInt) : (start lo).toInt = (min (lo.toNat / 8 * 8) 896 : ℕ) := by
  have e := BitVec.toInt_eq_toNat_cond (start lo)
  rw [start_toNat lo h] at e
  rw [e, if_pos (by omega)]

/-- The side condition of the body: a window that starts at a row from 0 to 896 lies in the 1024 rows. -/
theorem chk_of_nonneg (lo hi : BitVec 32) (h : 0 ≤ lo.toInt) : k0_chk1 lo hi := by
  have hs := start_toNat lo h
  unfold k0_chk1
  rw [off1_eq, off2_eq, hs]
  refine ⟨fun _ a => ?_, fun _ a => ?_⟩ <;> fin_cases a
  · show min (lo.toNat / 8 * 8) 896 + 128 ≤ 1024; omega
  · show 0 + 128 ≤ 128; omega
  · show min (lo.toNat / 8 * 8) 896 + 128 ≤ 1024; omega
  · show 0 + 1 ≤ 1; omega

/-- The window branch is taken exactly when the greatest segment number is less than 128 above the window's start. -/
theorem cond2_iff (lo hi : BitVec 32) (h : 0 ≤ lo.toInt) (hh : 0 ≤ hi.toInt) :
    k0_cond2 lo hi = 1#1 ↔ hi.toInt < (start lo).toInt + 128 := by
  have e : k0_cond2 lo hi = Scalar.cmpi .ne (Scalar.extui (Scalar.xori (Scalar.cmpi .sge (Scalar.subi hi (start lo)) 128#32) 1#1)) 0#32 := rfl
  rw [e]
  have hsub : (Scalar.subi hi (start lo)).toInt = hi.toInt - (start lo).toInt :=
    WordArith.toInt_subi_of_nonneg _ _ hh (by rw [start_toInt lo h]; omega)
  have hx : ∀ q : BitVec 1, (Scalar.cmpi .ne (Scalar.extui (Scalar.xori q 1#1)) 0#32 = 1#1) ↔ ¬ q = 1#1 := by decide
  rw [hx]
  show ¬ (BitVec.ofBool (BitVec.sle 128#32 (Scalar.subi hi (start lo))) = 1#1) ↔ _
  rw [WordArith.ofBool_eq_one_iff, BitVec.sle, decide_eq_true_iff, hsub]
  show ¬ (128 ≤ _) ↔ _
  omega

/-- A fold of the signed minimum over a set is at most the start and every word met, and is one of them. -/
theorem fold_minsi_spec {ι : Type} [DecidableEq ι] (g : ι → BitVec 32) (s : Finset ι) (init : BitVec 32) :
    (∀ i ∈ s, (s.fold IntOp.minsi init g).toInt ≤ (g i).toInt)
      ∧ (0 ≤ init.toInt → (∀ i ∈ s, 0 ≤ (g i).toInt) → 0 ≤ (s.fold IntOp.minsi init g).toInt) := by
  induction s using Finset.induction_on with
  | empty => exact ⟨fun i hi => absurd hi (Finset.notMem_empty i), fun h _ => by rw [Finset.fold_empty]; exact h⟩
  | insert a s has ih =>
    rw [Finset.fold_insert has, SortNet.toInt_minsi]
    refine ⟨fun i hi => ?_, fun h0 h1 => ?_⟩
    · rcases Finset.mem_insert.mp hi with rfl | hi
      · exact min_le_left _ _
      · exact le_trans (min_le_right _ _) (ih.1 i hi)
    · exact le_min (h1 a (Finset.mem_insert_self a s)) (ih.2 h0 fun i hi => h1 i (Finset.mem_insert_of_mem hi))

variable {F : FTy → Type} [FloatOps F]

/-- A shape whose axes all have one point has one index. -/
theorem one_index (i j : S1.Idx) : i = j := by
  funext a
  have hi := (i a).isLt
  have hj := (j a).isLt
  apply Fin.ext
  have : S1.size a = 1 := by fin_cases a; rfl
  omega

/-- The body's least segment number is one fold of the signed minimum over the block. -/
theorem low_eq (b : Vec F S1x1x4000 .i32) :
    low b = (Finset.univ : Finset S1x1x4000.Idx).fold IntOp.minsi 2147483647#32 b := by
  have e : shapeCast S1x1x4000 (shapeCast S1x4000 b shapeCasts_S1x1x4000_S1x4000) shapeCasts_S1x4000_S1x1x4000 = b := by
    rw [shapeCast_comp, shapeCast_id]
  refine (multiReductionI_eq_fold .minsi _ _ _ rfl _).trans ?_
  rw [Finset.filter_true_of_mem fun i _ => one_index _ _]
  exact congrArg (fun v => Finset.univ.fold IntOp.minsi 2147483647#32 v) e

/-- The body's greatest segment number is one fold of the signed maximum over the block. -/
theorem high_eq (b : Vec F S1x1x4000 .i32) :
    high b = (Finset.univ : Finset S1x1x4000.Idx).fold IntOp.maxsi 2147483648#32 b := by
  have e : shapeCast S1x1x4000 (shapeCast S1x4000 b shapeCasts_S1x1x4000_S1x4000) shapeCasts_S1x4000_S1x1x4000 = b := by
    rw [shapeCast_comp, shapeCast_id]
  refine (multiReductionI_eq_fold .maxsi _ _ _ rfl _).trans ?_
  rw [Finset.filter_true_of_mem fun i _ => one_index _ _]
  exact congrArg (fun v => Finset.univ.fold IntOp.maxsi 2147483648#32 v) e

theorem low_le (b : Vec F S1x1x4000 .i32) (i : S1x1x4000.Idx) : (low b).toInt ≤ (b i : BitVec 32).toInt := by
  rw [low_eq]; exact (fold_minsi_spec _ _ _).1 i (Finset.mem_univ i)

theorem low_nonneg (b : Vec F S1x1x4000 .i32) (h : ∀ i, 0 ≤ (b i : BitVec 32).toInt) : 0 ≤ (low b).toInt := by
  rw [low_eq]; exact (fold_minsi_spec _ _ _).2 (by decide) fun i _ => h i

theorem le_high (b : Vec F S1x1x4000 .i32) (i : S1x1x4000.Idx) : (b i : BitVec 32).toInt ≤ (high b).toInt := by
  rw [high_eq]; exact (SortNet.fold_maxsi_spec _ _ _).2.1 i (Finset.mem_univ i)

end Cert.KernelIdeal.Pool

end
-- ==== Proof.KI.Claim.lean ====
/- The frame of the program under its precondition: no segment number is negative. -/
module

public import proofs.«01_k».proof.Defs
public import proofs.«01_k».proof.Proof.Gen.Pre_batch_named
public import proofs.«01_k».proof.Proof.KI.Blocks
public import proofs.«01_k».proof.Proof.KI.Words

@[expose] public section

set_option maxRecDepth 16384

noncomputable section

namespace Cert.KernelIdeal.Pool

open Idealize.ShloMosaic Idealize.ShloMosaic.TcCoe Idealize.SL.Sem
open Cert.KernelIdeal.Gen

variable {F : FTy → Type} [FloatOps F]
variable (m : (ℓ : Loc nD τ sig) → Buf (Elt F) ℓ)

/-- No segment number of the memory is negative, on any device. -/
def Nonneg : Prop := ∀ (c : Dev nD) (k : Fin 100000), 0 ≤ (m ((c.tc : Thread nD τ).loc main_arg1) (ix1 k) : BitVec 32).toInt

/-- The printed predicate, all ones, says that no segment number is negative. -/
theorem nonneg_of_fn {G : FTy → Type} [FloatOps G] (a0 : FVec G Cert.Pre_batch_named.S100000x128 .f32)
    (a1 : IVec Cert.Pre_batch_named.S100000 32) (a2 : FVec G Cert.Pre_batch_named.S128x64 .f32)
    (a3 : FVec G Cert.Pre_batch_named.S64 .f32) (a4 : FVec G Cert.Pre_batch_named.S64x1 .f32) (a5 : FVec G Cert.Pre_batch_named.S1 .f32)
    (h : Cert.Pre_batch_named.fn a0 a1 a2 a3 a4 a5 = fun _ => 1#1) (i : Cert.Pre_batch_named.S100000.Idx) : 0 ≤ (a1 i).toInt := by
  have e : BitVec.ofBool (BitVec.sle 0#32 (a1 i)) = 1#1 := congrFun h i
  rw [WordArith.ofBool_eq_one_iff, BitVec.sle, decide_eq_true_iff] at e
  exact e

/-- Every entry of a block of segment numbers is one of the launch's. -/
theorem block_nonneg (h : Nonneg m) (c : Dev nD) (t : Fin cfg0.N) (i : S1x1x4000.Idx) : 0 ≤ (iblk m c 1 t i : BitVec 32).toInt := by
  have e : i = ix3 0 0 (i 2) := by
    funext a
    fin_cases a
    · exact Subsingleton.elim (α := Fin 1) _ _
    · exact Subsingleton.elim (α := Fin 1) _ _
    · rfl
  have hb : iblk m c 1 t i = _ := (congrArg (iblk m c 1 t) e).trans (blk_batch m c t (i 2))
  exact (congrArg (fun w : BitVec 32 => 0 ≤ w.toInt) hb).mpr (h c _)

/-- Then the body's side condition holds at every point. -/
theorem meets (h : Nonneg m) (c : Dev nD) : Meets m c := fun t =>
  chk_of_nonneg _ _ (low_nonneg _ fun i => block_nonneg m h c t i)

end Cert.KernelIdeal.Pool

end
-- ==== Proof.Math.Score.lean ====
/- The score of one row, and the test "this row is in that segment" as a number, over the extended reals. -/
module

public import Idealize.ShloMosaic.PureOps
public import Idealize.ShloMosaic.PureOps.Ideal.Laws

@[expose] public section

noncomputable section

namespace Cert.Softmax

open Idealize.ShloMosaic

/-- One hidden unit before its activation. -/
def hidden (x : Fin 128 → EReal) (W₁ : Fin 128 → Fin 64 → EReal) (b₁ : Fin 64 → EReal) (h : Fin 64) : EReal :=
  ∑ d, x d * W₁ d h + b₁ h

/-- The leaky activation, of slope the f32 number nearest 0.01 below zero. -/
def leaky (z : EReal) : EReal := if 0 < z then z else Ideal.ofBits .f32 0x3C23D70A#32 * z

/-- The score of a row. -/
def score (x : Fin 128 → EReal) (W₁ : Fin 128 → Fin 64 → EReal) (b₁ : Fin 64 → EReal) (W₂ : Fin 64 → EReal) (b₂ : EReal) : EReal :=
  ∑ h, leaky (hidden x W₁ b₁ h) * W₂ h + b₂

/-- The number a comparison of two words becomes: one if they are equal, zero if not. -/
def hit (a b : BitVec 32) : EReal := FloatOps.sitofp (F := Ideal) .f32 (BitVec.setWidth 32 (IntOp.cmpi .eq a b))

/-- A value multiplied by that number is the value or zero. -/
theorem hit_mul (a b : BitVec 32) (v : EReal) : hit a b * v = if a = b then v else 0 := by
  have key : hit a b = (((BitVec.setWidth 32 (BitVec.ofBool (a == b))).toInt : ℝ) : EReal) := rfl
  by_cases h : a = b
  · have e : hit a b = 1 := by
      rw [key, beq_iff_eq.mpr h]
      simp
    rw [e, if_pos h, one_mul]
  · have e : hit a b = 0 := by
      rw [key, beq_eq_false_iff_ne.mpr h]
      simp
    rw [e, if_neg h, zero_mul]

end Cert.Softmax
-- ==== Proof.KI.Step.lean ====
/- One grid point of the kernel read at one entry, over the extended reals: whichever branch the body takes, row `g` of a
   table grows by the sum over the block's rows whose segment number is `g`. -/
module

public import proofs.«01_k».proof.Proof.KI.Words
public import proofs.«01_k».proof.Proof.Math.Score
public import Idealize.ShloMosaic.Lib.Pointwise

@[expose] public section

noncomputable section

namespace Cert.KernelIdeal.Pool

open Idealize.ShloMosaic Idealize.ShloMosaic.Tactic
open Cert.KernelIdeal.Gen Cert.Softmax
open VecWindow (window put)

/-- Contents put over 128 whole rows from row `n` on, read at one entry. -/
theorem put_rows {D : ℕ} {α : Type} (x : (⟨2, ![1024, D]⟩ : Shape).Idx → α) (off : Fin 2 → ℕ) (n : ℕ) (ho : off = ![n, 0])
    (w : (⟨2, ![128, D]⟩ : Shape).Idx → α) (g : Fin 1024) (d : Fin D) :
    put x off ![128, D] w (ix2 g d)
      = if h : n ≤ g.val ∧ g.val < n + 128 then w (ix2 ⟨g.val - n, by omega⟩ d) else x (ix2 g d) := by
  subst ho
  have key : (∀ a : Fin 2, (![n, 0] : Fin 2 → ℕ) a ≤ ((ix2 g d : (⟨2, ![1024, D]⟩ : Shape).Idx) a).val
      ∧ ((ix2 g d : (⟨2, ![1024, D]⟩ : Shape).Idx) a).val < (![n, 0] : Fin 2 → ℕ) a + (![128, D] : Fin 2 → ℕ) a)
      ↔ (n ≤ g.val ∧ g.val < n + 128) := by
    constructor
    · intro h; exact h 0
    · intro h a
      match a with
      | ⟨0, _⟩ => exact h
      | ⟨1, _⟩ => exact ⟨Nat.zero_le _, by have := d.isLt; show d.val < 0 + D; omega⟩
  unfold put
  by_cases h : n ≤ g.val ∧ g.val < n + 128
  · rw [dif_pos h, dif_pos (key.mpr h)]
    refine congrArg w (funext fun a => Fin.ext ?_)
    match a with
    | ⟨0, _⟩ => rfl
    | ⟨1, _⟩ => rfl
  · rw [dif_neg h, dif_neg fun q => h (key.mp q)]

/-- A window of 128 whole rows from row `n` on, read at one entry. -/
theorem window_rows {D : ℕ} {α : Type} (x : (⟨2, ![1024, D]⟩ : Shape).Idx → α) (off : Fin 2 → ℕ) (n : ℕ) (ho : off = ![n, 0])
    (inb : ∀ a, off a + (![128, D] : Fin 2 → ℕ) a ≤ (![1024, D] : Fin 2 → ℕ) a) (r : Fin 128) (d : Fin D) (hr : n + r.val < 1024) :
    window x off ![128, D] inb (ix2 r d) = x (ix2 ⟨n + r.val, hr⟩ d) := by
  subst ho
  refine congrArg x (funext fun a => Fin.ext ?_)
  match a with
  | ⟨0, _⟩ => show n + 1 * r.val = n + r.val; omega
  | ⟨1, _⟩ => show 0 + 1 * d.val = d.val; omega

/-- In the window's branch every segment number lies in the window. -/
theorem in_window (b : Vec Ideal S1x1x4000 .i32) (hb : ∀ i, 0 ≤ (b i : BitVec 32).toInt)
    (h2 : k0_cond2 (low b) (high b) = 1#1) (i : S1x1x4000.Idx) :
    (start (low b)).toNat ≤ (b i : BitVec 32).toNat ∧ (b i : BitVec 32).toNat < (start (low b)).toNat + 128
      ∧ (start (low b)).toNat ≤ 896 := by
  have hlo := low_nonneg b hb
  have h1 := low_le b i
  have h3 := le_high b i
  have hbi := hb i
  have h4 := (cond2_iff _ _ hlo (le_trans hbi h3)).mp h2
  rw [start_toInt _ hlo] at h4
  have hs := start_toNat _ hlo
  have e1 := BitVec.toInt_eq_toNat_cond (low b)
  have e2 := BitVec.toInt_eq_toNat_cond (b i : BitVec 32)
  have l1 := (low b).isLt
  have l2 := (b i : BitVec 32).isLt
  omega

/-- Counting rows from the window's start or from the table's start asks the same of a segment number in the window. -/
theorem local_row (b s : BitVec 32) (g : ℕ) (hg : s.toNat ≤ g) (hg' : g < s.toNat + 128) (hs : s.toNat ≤ 896)
    (hb : s.toNat ≤ b.toNat) (hb' : b.toNat < s.toNat + 128) :
    IntOp.subi b s = BitVec.ofNat 32 (g - s.toNat) ↔ b = BitVec.ofNat 32 g := by
  have e : (IntOp.subi b s).toNat = b.toNat - s.toNat := by
    show (b - s).toNat = _
    rw [BitVec.toNat_sub]
    have := b.isLt
    omega
  rw [← BitVec.toNat_inj, ← BitVec.toNat_inj, e, BitVec.toNat_ofNat, BitVec.toNat_ofNat]
  omega

/-- A segment number in the window is no row of the table outside it. -/
theorem outside_row (b s : BitVec 32) (g : ℕ) (hg : ¬ (s.toNat ≤ g ∧ g < s.toNat + 128)) (hg' : g < 1024)
    (hb : s.toNat ≤ b.toNat) (hb' : b.toNat < s.toNat + 128) : b ≠ BitVec.ofNat 32 g := by
  intro h
  have e := congrArg BitVec.toNat h
  rw [BitVec.toNat_ofNat] at e
  omega

/-- What a block adds to row `g` of a table, column `d`: the sum of the entries of its rows whose segment number is `g`. -/
def added {D : ℕ} (b : Vec Ideal S1x1x4000 .i32) (v : (⟨2, ![4000, D]⟩ : Shape).Idx → EReal) (g : Fin 1024) (d : Fin D) : EReal :=
  ∑ j : Fin 4000, if (b (ix3 0 0 j) : BitVec 32) = BitVec.ofNat 32 g.val then v (ix2 j d) else 0

/-- The sums' full branch at one entry. -/
theorem full_sums (v : FVec Ideal S4000x128 .f32) (b : Vec Ideal S1x1x4000 .i32) (o : Vec Ideal S1024x128 .f32) (g : Fin 1024)
    (d : Fin 128) : k0_pay8 v (k0_pay15 (F := Ideal) b) o (ix2 g d) = o (ix2 g d) + added b v g d := by
  pointwise [k0_pay8, k0_pay7, k0_pay2, k0_pay15]
  exact congrArg (o (ix2 g d) + ·) (Finset.sum_congr rfl fun j _ => hit_mul _ _ _)

/-- The denominators' full branch at one entry. -/
theorem full_dens (v : FVec Ideal S4000x1 .f32) (b : Vec Ideal S1x1x4000 .i32) (o : Vec Ideal S1024x1 .f32) (g : Fin 1024) :
    k0_pay9 v (k0_pay15 (F := Ideal) b) o (ix2 g (0 : Fin 1)) = o (ix2 g (0 : Fin 1)) + added b v g (0 : Fin 1) := by
  pointwise [k0_pay9, k0_pay7, k0_pay3, k0_pay15]
  exact congrArg (o (ix2 g 0) + ·) (Finset.sum_congr rfl fun j _ => hit_mul _ _ _)

/-- The sums' window branch at one entry of the window. -/
theorem window_sums (lo : BitVec 32) (v : FVec Ideal S4000x128 .f32) (b : Vec Ideal S1x1x4000 .i32) (o : Vec Ideal S128x128 .f32)
    (r : Fin 128) (d : Fin 128) :
    k0_pay5 v (k0_pay15 (F := Ideal) b) lo 8#32 (Scalar.divsi lo 8#32) (Scalar.extui (Scalar.cmpi .sgt lo 0#32))
        (Scalar.extui (Scalar.cmpi .slt lo 0#32)) o (ix2 r d)
      = o (ix2 r d) + ∑ j : Fin 4000, if IntOp.subi (b (ix3 0 0 j)) (start lo) = BitVec.ofNat 32 r.val then v (ix2 j d) else 0 := by
  pointwise [k0_pay5, k0_pay4, k0_pay2, k0_pay15]
  exact congrArg (o (ix2 r d) + ·) (Finset.sum_congr rfl fun j _ => hit_mul _ _ _)

/-- The denominators' window branch at one entry of the window. -/
theorem window_dens (lo : BitVec 32) (v : FVec Ideal S4000x1 .f32) (b : Vec Ideal S1x1x4000 .i32) (o : Vec Ideal S128x1 .f32)
    (r : Fin 128) :
    k0_pay6 v (k0_pay15 (F := Ideal) b) lo 8#32 (Scalar.divsi lo 8#32) (Scalar.extui (Scalar.cmpi .sgt lo 0#32))
        (Scalar.extui (Scalar.cmpi .slt lo 0#32)) o (ix2 r (0 : Fin 1))
      = o (ix2 r (0 : Fin 1))
        + ∑ j : Fin 4000, if IntOp.subi (b (ix3 0 0 j)) (start lo) = BitVec.ofNat 32 r.val then v (ix2 j (0 : Fin 1)) else 0 := by
  pointwise [k0_pay6, k0_pay4, k0_pay3, k0_pay15]
  exact congrArg (o (ix2 r 0) + ·) (Finset.sum_congr rfl fun j _ => hit_mul _ _ _)

/-- A table whose window of rows was put back with a local sum added holds, at every row, its old entry and the block's sum. -/
theorem put_added {D : ℕ} (b : Vec Ideal S1x1x4000 .i32) (hb : ∀ i, 0 ≤ (b i : BitVec 32).toInt)
    (h2 : k0_cond2 (low b) (high b) = 1#1) (v : (⟨2, ![4000, D]⟩ : Shape).Idx → EReal)
    (x : (⟨2, ![1024, D]⟩ : Shape).Idx → EReal) (off : Fin 2 → ℕ) (ho : off = ![(start (low b)).toNat, 0])
    (inb : ∀ a, off a + (![128, D] : Fin 2 → ℕ) a ≤ (![1024, D] : Fin 2 → ℕ) a)
    (w : (⟨2, ![128, D]⟩ : Shape).Idx → EReal)
    (hw : ∀ (r : Fin 128) (d : Fin D), w (ix2 r d) = window x off ![128, D] inb (ix2 r d)
      + ∑ j : Fin 4000, if IntOp.subi (b (ix3 0 0 j)) (start (low b)) = BitVec.ofNat 32 r.val then v (ix2 j d) else 0)
    (g : Fin 1024) (d : Fin D) : put x off ![128, D] w (ix2 g d) = x (ix2 g d) + added b v g d := by
  have hin := fun j : Fin 4000 => in_window b hb h2 (ix3 0 0 j)
  rw [put_rows x off _ ho w g d]
  by_cases h : (start (low b)).toNat ≤ g.val ∧ g.val < (start (low b)).toNat + 128
  · rw [dif_pos h, hw, window_rows x off _ ho inb _ d (by show _ + (g.val - _) < 1024; have := g.isLt; omega)]
    refine congrArg₂ (· + ·) (congrArg x (congrArg (fun q => ix2 q d) (Fin.ext ?_))) (Finset.sum_congr rfl fun j _ => ?_)
    · show (start (low b)).toNat + (g.val - (start (low b)).toNat) = g.val
      omega
    · exact if_congr (local_row _ _ g.val h.1 h.2 (hin j).2.2 (hin j).1 (hin j).2.1) rfl rfl
  · rw [dif_neg h]
    have e : added b v g d = 0 :=
      Finset.sum_eq_zero fun j _ => if_neg (outside_row _ _ g.val h g.isLt (hin j).1 (hin j).2.1)
    rw [e, add_zero]

/-- The weighted sums after a point, at one entry. -/
theorem sumNext_at (i : grid0.Coords) (x0 : Vec Ideal S4000x128 .f32) (b : Vec Ideal S1x1x4000 .i32) (x2 : Vec Ideal S128x64 .f32)
    (x3 : Vec Ideal S1x64 .f32) (x4 : Vec Ideal S64x1 .f32) (x5 : Vec Ideal S1x1 .f32) (o : Vec Ideal S1024x128 .f32)
    (hb : ∀ i, 0 ≤ (b i : BitVec 32).toInt) (g : Fin 1024) (d : Fin 128) :
    sumNext i x0 b x2 x3 x4 x5 o (ix2 g d)
      = (if atFirst i then 0 else o (ix2 g d)) + added b (k0_pay14 x0 x2 x3 x4 x5) g d := by
  have e0 : (if atFirst i then k0_pay11 (F := Ideal) else o) (ix2 g d) = if atFirst i then 0 else o (ix2 g d) := by
    by_cases h : atFirst i
    · rw [if_pos h, if_pos h]
      pointwise [k0_pay11]
    · rw [if_neg h, if_neg h]
  rw [← e0]
  unfold sumNext
  by_cases h : k0_chk1 (low b) (high b) ∧ k0_cond2 (low b) (high b) = 1#1
  · dsimp only
    rw [dif_pos h]
    exact put_added b hb h.2 _ _ _ (off1_eq _) (k0_off1_inb _ _ h.1 h.2) _ (fun r d => window_sums _ _ _ _ r d) g d
  · dsimp only
    rw [dif_neg h]
    exact full_sums _ _ _ g d

/-- The denominators after a point, at one entry. -/
theorem denNext_at (i : grid0.Coords) (x0 : Vec Ideal S4000x128 .f32) (b : Vec Ideal S1x1x4000 .i32) (x2 : Vec Ideal S128x64 .f32)
    (x3 : Vec Ideal S1x64 .f32) (x4 : Vec Ideal S64x1 .f32) (x5 : Vec Ideal S1x1 .f32) (s : Vec Ideal S1024x1 .f32)
    (hb : ∀ i, 0 ≤ (b i : BitVec 32).toInt) (g : Fin 1024) :
    denNext i x0 b x2 x3 x4 x5 s (ix2 g (0 : Fin 1))
      = (if atFirst i then 0 else s (ix2 g (0 : Fin 1))) + added b (weights x0 x2 x3 x4 x5) g (0 : Fin 1) := by
  have e0 : (if atFirst i then k0_pay12 (F := Ideal) else s) (ix2 g (0 : Fin 1)) = if atFirst i then 0 else s (ix2 g (0 : Fin 1)) := by
    by_cases h : atFirst i
    · rw [if_pos h, if_pos h]
      pointwise [k0_pay12]
    · rw [if_neg h, if_neg h]
  rw [← e0]
  unfold denNext
  by_cases h : k0_chk1 (low b) (high b) ∧ k0_cond2 (low b) (high b) = 1#1
  · dsimp only
    rw [dif_pos h]
    refine put_added b hb h.2 _ _ _ (off2_eq _) (k0_off2_inb _ _ h.1 h.2) _ (fun r d => ?_) g (0 : Fin 1)
    obtain rfl : d = 0 := Subsingleton.elim _ _
    exact window_dens _ _ _ _ r
  · dsimp only
    rw [dif_neg h]
    exact full_dens _ _ _ g

/-- The last point's division at one entry. -/
theorem divided_at (o : Vec Ideal S1024x128 .f32) (s : Vec Ideal S1024x1 .f32) (g : Fin 1024) (d : Fin 128) :
    k0_pay10 o s (ix2 g d) = Ideal.div (o (ix2 g d)) (s (ix2 g (0 : Fin 1)) + Ideal.ofBits .f32 0x24E69595#32) := by
  pointwise [k0_pay10]

/-- The weight of a block's row is the exponential of its score. -/
theorem weights_at (x0 : Vec Ideal S4000x128 .f32) (x2 : Vec Ideal S128x64 .f32) (x3 : Vec Ideal S1x64 .f32) (x4 : Vec Ideal S64x1 .f32)
    (x5 : Vec Ideal S1x1 .f32) (j : Fin 4000) :
    weights x0 x2 x3 x4 x5 (ix2 j (0 : Fin 1))
      = Ideal.exp (score (fun d => x0 (ix2 j d)) (fun d h => x2 (ix2 d h)) (fun h => x3 (ix2 (0 : Fin 1) h))
          (fun h => x4 (ix2 h (0 : Fin 1))) (x5 (ix2 (0 : Fin 1) (0 : Fin 1)))) := by
  pointwise [k0_pay13]
  rfl

/-- The weighted entry of a block's row. -/
theorem weighted_at (x0 : Vec Ideal S4000x128 .f32) (x2 : Vec Ideal S128x64 .f32) (x3 : Vec Ideal S1x64 .f32) (x4 : Vec Ideal S64x1 .f32)
    (x5 : Vec Ideal S1x1 .f32) (j : Fin 4000) (d : Fin 128) :
    k0_pay14 x0 x2 x3 x4 x5 (ix2 j d) = x0 (ix2 j d) * weights x0 x2 x3 x4 x5 (ix2 j (0 : Fin 1)) := by
  pointwise [k0_pay14]

end Cert.KernelIdeal.Pool
-- ==== Proof.KI.Sums.lean ====
/- What the launch's result holds at one entry, over the extended reals: the sum of the weighted rows of the entry's segment
   divided by the sum of their weights and the guard. -/
module

public import proofs.«01_k».proof.Proof.KI.Step
public import proofs.«01_k».proof.Proof.KI.Claim
public import proofs.«01_k».proof.Proof.KI.Blocks

@[expose] public section

noncomputable section

namespace Cert.KernelIdeal.Pool

open Idealize.ShloMosaic Idealize.ShloMosaic.TcCoe Idealize.ShloMosaic.Tactic
open Cert.KernelIdeal.Gen Cert.Softmax

variable (m : (ℓ : Loc nD τ sig) → Buf (Elt Ideal) ℓ) (c : Dev nD)

/-- The score of row `k` of `x`. -/
def rowScore (k : Fin 100000) : EReal :=
  score (fun d => m ((c : Thread nD τ).loc main_arg0) (ix2 k d)) (fun d h => m ((c : Thread nD τ).loc main_arg2) (ix2 d h))
    (fun h => m ((c : Thread nD τ).loc main_arg3) (ix1 h)) (fun h => m ((c : Thread nD τ).loc main_arg4) (ix2 h (0 : Fin 1)))
    (m ((c : Thread nD τ).loc main_arg5) (ix1 (0 : Fin 1)))

/-- Row `k` is in segment `g`. -/
abbrev InSegment (g : Fin 1024) (k : Fin 100000) : Prop :=
  (m ((c : Thread nD τ).loc main_arg1) (ix1 k) : BitVec 32) = BitVec.ofNat 32 g.val

/-- Entry `d` of row `k` of `x`. -/
def entryX (k : Fin 100000) (d : Fin 128) : EReal := m ((c : Thread nD τ).loc main_arg0) (ix2 k d)

/-- What row `k` adds to the weighted sums' entry of segment `g`, column `d`. -/
def sumTerm (g : Fin 1024) (d : Fin 128) (k : Fin 100000) : EReal :=
  if InSegment m c g k then entryX m c k d * Ideal.exp (rowScore m c k) else 0

/-- What row `k` adds to the weights' sum of segment `g`. -/
def denTerm (g : Fin 1024) (k : Fin 100000) : EReal :=
  if InSegment m c g k then Ideal.exp (rowScore m c k) else 0

/-- Row `j` of the block at point `t`, as a row of `x`. -/
abbrev rowOf (t : Fin cfg0.N) (j : Fin 4000) : Fin 100000 := ⟨t.val * 4000 + j.val, by have := point_lt t; omega⟩

/-- The weight of a row of the block at point `t`. -/
theorem weights_blk (t : Fin cfg0.N) (j : Fin 4000) :
    weights (iblk m c 0 t) (iblk m c 2 t) (iblk m c 3 t) (iblk m c 4 t) (iblk m c 5 t) (ix2 j (0 : Fin 1))
      = Ideal.exp (rowScore m c (rowOf t j)) := by
  refine (weights_at _ _ _ _ _ j).trans (congrArg Ideal.exp ?_)
  unfold rowScore
  have e0 : (fun d => iblk m c 0 t (ix2 j d)) = fun d => m ((c : Thread nD τ).loc main_arg0) (ix2 (rowOf t j) d) :=
    funext fun d => blk_x m c t j d
  have e2 : (fun d h => iblk m c 2 t (ix2 d h)) = fun d h => m ((c : Thread nD τ).loc main_arg2) (ix2 d h) :=
    funext fun d => funext fun h => blk_W1 m c t d h
  have e3 : (fun h => iblk m c 3 t (ix2 0 h)) = fun h => m ((c : Thread nD τ).loc main_arg3) (ix1 h) :=
    funext fun h => blk_b1 m c t h
  have e4 : (fun h => iblk m c 4 t (ix2 h 0)) = fun h => m ((c : Thread nD τ).loc main_arg4) (ix2 h (0 : Fin 1)) :=
    funext fun h => blk_W2 m c t h
  have e5 := blk_b2 m c t
  exact congr (congr (congr (congr (congrArg score e0) e2) e3) e4) e5

/-- What the block at point `t` adds to an entry of the weighted sums. -/
theorem added_sums (t : Fin cfg0.N) (g : Fin 1024) (d : Fin 128) :
    added (iblk m c 1 t) (k0_pay14 (iblk m c 0 t) (iblk m c 2 t) (iblk m c 3 t) (iblk m c 4 t) (iblk m c 5 t)) g d
      = ∑ j : Fin 4000, sumTerm m c g d (rowOf t j) := by
  refine Finset.sum_congr rfl fun j _ => ?_
  have hb := blk_batch m c t j
  have hv : k0_pay14 (iblk m c 0 t) (iblk m c 2 t) (iblk m c 3 t) (iblk m c 4 t) (iblk m c 5 t) (ix2 j d)
      = entryX m c (rowOf t j) d * Ideal.exp (rowScore m c (rowOf t j)) :=
    (weighted_at _ _ _ _ _ j d).trans (congrArg₂ (fun p q : EReal => p * q) (blk_x m c t j d) (weights_blk m c t j))
  exact if_congr (iff_of_eq (congrArg (fun w : BitVec 32 => w = BitVec.ofNat 32 g.val) hb)) hv rfl

/-- What the block at point `t` adds to a segment's sum of weights. -/
theorem added_dens (t : Fin cfg0.N) (g : Fin 1024) :
    added (iblk m c 1 t) (weights (iblk m c 0 t) (iblk m c 2 t) (iblk m c 3 t) (iblk m c 4 t) (iblk m c 5 t)) g (0 : Fin 1)
      = ∑ j : Fin 4000, denTerm m c g (rowOf t j) := by
  refine Finset.sum_congr rfl fun j _ => ?_
  exact if_congr (iff_of_eq (congrArg (fun w : BitVec 32 => w = BitVec.ofNat 32 g.val) (blk_batch m c t j)))
    (weights_blk m c t j) rfl

/-- The sums over the points' blocks are one sum over the rows of `x`. -/
theorem sum_rows (f : Fin 100000 → EReal) : (∑ t : Fin cfg0.N, ∑ j : Fin 4000, f (rowOf t j)) = ∑ k : Fin 100000, f k := by
  have h := Fin.sum_mul_add_fin (S := 25) (n := 4000) (L := 100000) f
  exact h

/-- What the result block and the denominators held before point `n`. -/
def priorTo : (n : ℕ) → n < cfg0.N → Vec Ideal S1024x128 .f32 × Vec Ideal S1024x1 .f32
  | 0, _ => (k0_pay11 (F := Ideal), k0_pay12 (F := Ideal))
  | n + 1, hn => held m c n (Nat.lt_of_succ_lt hn)

theorem held_eq (n : ℕ) (hn : n < cfg0.N) : held m c n hn = stepAt m c ⟨n, hn⟩ (priorTo m c n hn) := by
  cases n with
  | zero => rfl
  | succ n => rfl

/-- The weighted sums after point `n`, before any division. -/
def sumsAt (n : ℕ) (hn : n < cfg0.N) : Vec Ideal S1024x128 .f32 :=
  sumNext (grid0.coords ⟨n, hn⟩) (iblk m c 0 ⟨n, hn⟩) (iblk m c 1 ⟨n, hn⟩) (iblk m c 2 ⟨n, hn⟩) (iblk m c 3 ⟨n, hn⟩)
    (iblk m c 4 ⟨n, hn⟩) (iblk m c 5 ⟨n, hn⟩) (priorTo m c n hn).1

/-- Before the last point the result block holds the weighted sums. -/
theorem held_sums (n : ℕ) (hn : n < cfg0.N) (h : n ≠ 24) : (held m c n hn).1 = sumsAt m c n hn := by
  rw [held_eq]
  unfold stepAt outNext sumsAt
  exact if_neg fun q => h ((atLast_iff ⟨n, hn⟩).mp q)

/-- After the last point it holds them divided by the denominators. -/
theorem held_divided (hn : 24 < cfg0.N) : (held m c 24 hn).1 = k0_pay10 (sumsAt m c 24 hn) (held m c 24 hn).2 := by
  rw [held_eq]
  unfold stepAt outNext sumsAt
  exact if_pos ((atLast_iff ⟨24, hn⟩).mpr rfl)

/-- The weighted sums over all the points, at one entry. -/
theorem sums_total (hb : Nonneg m) (hn : 24 < cfg0.N) (g : Fin 1024) (d : Fin 128) :
    sumsAt m c 24 hn (ix2 g d) = ∑ k : Fin 100000, sumTerm m c g d k := by
  have step : ∀ t : Fin cfg0.N, sumsAt m c t.val t.isLt (ix2 g d)
      = (if atFirst (grid0.coords t) then 0 else (priorTo m c t.val t.isLt).1 (ix2 g d)) + ∑ j : Fin 4000, sumTerm m c g d (rowOf t j) :=
    fun t => (sumNext_at _ _ _ _ _ _ _ _ (block_nonneg m hb c t) g d).trans (congrArg (_ + ·) (added_sums m c t g d))
  have h := Pipeline.eq_sum_fin_of_reset_step_last (fun n hn => sumsAt m c n hn (ix2 g d)) 25 (0 : EReal)
    (fun t => ∑ j : Fin 4000, sumTerm m c g d (rowOf t j))
    (fun t ht => by
      have := point_lt t
      exact (step t).trans (by rw [if_pos ((atFirst_iff t).mpr (by omega))]))
    (fun t ht => by
      have := point_lt t
      refine (step t).trans ?_
      rw [if_neg fun q => ht (by rw [(atFirst_iff t).mp q])]
      obtain ⟨n, hn⟩ := t
      cases n with
      | zero => exact absurd rfl ht
      | succ n => exact congrArg (fun v : Vec Ideal S1024x128 .f32 => v (ix2 g d) + _) (held_sums m c n _ (by dsimp only at this; omega)))
    (le_of_eq N_0) ⟨24, hn⟩ N_0.symm
  refine h.trans ?_
  rw [zero_add]
  exact sum_rows (sumTerm m c g d)

/-- The sums of weights over all the points, at one segment. -/
theorem dens_total (hb : Nonneg m) (hn : 24 < cfg0.N) (g : Fin 1024) :
    (held m c 24 hn).2 (ix2 g (0 : Fin 1)) = ∑ k : Fin 100000, denTerm m c g k := by
  have step : ∀ t : Fin cfg0.N, (held m c t.val t.isLt).2 (ix2 g (0 : Fin 1))
      = (if atFirst (grid0.coords t) then 0 else (priorTo m c t.val t.isLt).2 (ix2 g (0 : Fin 1)))
        + ∑ j : Fin 4000, denTerm m c g (rowOf t j) :=
    fun t => by
      rw [held_eq]
      exact (denNext_at _ _ _ _ _ _ _ _ (block_nonneg m hb c t) g).trans (congrArg (_ + ·) (added_dens m c t g))
  have h := Pipeline.eq_sum_fin_of_reset_step_last (fun n hn => (held m c n hn).2 (ix2 g (0 : Fin 1))) 25 (0 : EReal)
    (fun t => ∑ j : Fin 4000, denTerm m c g (rowOf t j))
    (fun t ht => by
      have := point_lt t
      exact (step t).trans (by rw [if_pos ((atFirst_iff t).mpr (by omega))]))
    (fun t ht => by
      have := point_lt t
      refine (step t).trans ?_
      rw [if_neg fun q => ht (by rw [(atFirst_iff t).mp q])]
      obtain ⟨n, hn⟩ := t
      cases n with
      | zero => exact absurd rfl ht
      | succ n => rfl)
    (le_of_eq N_0) ⟨24, hn⟩ N_0.symm
  refine h.trans ?_
  rw [zero_add]
  exact sum_rows (denTerm m c g)

/-- The pooled entry of segment `g`, column `d`. -/
def pooledEntry (g : Fin 1024) (d : Fin 128) : EReal :=
  Ideal.div (∑ k : Fin 100000, sumTerm m c g d k) (∑ k : Fin 100000, denTerm m c g k + Ideal.ofBits .f32 0x24E69595#32)

/-- The result block after the last point, at one entry. -/
theorem held_final (hb : Nonneg m) (hn : 24 < cfg0.N) (g : Fin 1024) (d : Fin 128) :
    (held m c 24 hn).1 (ix2 g d) = pooledEntry m c g d := by
  rw [held_divided, divided_at, sums_total m c hb, dens_total m c hb]
  rfl

end Cert.KernelIdeal.Pool
-- ==== Proof.KI.Value.lean ====
/- The kernel's run with its result named: the table of pooled entries. -/
module

public import proofs.«01_k».proof.Proof.KI.Sums

@[expose] public section

noncomputable section

namespace Cert.KernelIdeal.Pool

open Idealize.ShloMosaic Idealize.ShloMosaic.TcCoe Idealize.ShloMosaic.Tactic Idealize.SL.Sem
open Cert.KernelIdeal.Gen Cert.Softmax

variable (m : (ℓ : Loc nD τ sig) → Buf (Elt Ideal) ℓ)

/-- The grid's last point. -/
def lastPoint : Fin cfg0.N := ⟨24, by rw [show cfg0.N = 25 from N_0]; decide⟩

/-- The table of pooled entries. -/
def pooledTable (c : Dev nD) : Buf (Elt Ideal) ((c.tc : Thread nD τ).loc main_v3) :=
  fun i : S1024x128.Idx => pooledEntry m c (i 0) (i 1)

/-- The last point writes the whole result back, and no other point does. -/
theorem whole_last : (cfg0.win 6).WholeAt lastPoint := by decide +kernel

/-- What the result block holds after the last point is the table of pooled entries. -/
theorem final_at (h : Nonneg m) (c : Dev nD) (j : S1024x128.Idx) :
    (held m c lastPoint.val lastPoint.isLt).1 j = pooledTable m c j := by
  have e : j = ix2 (j 0) (j 1) := (ix2_eta j).symm
  exact (congrArg (held m c lastPoint.val lastPoint.isLt).1 e).trans (held_final m c h lastPoint.isLt (j 0) (j 1))

/-- What the launch's data say the body leaves at the last point is the table of pooled entries. -/
theorem after_last (h : Nonneg m) (c : Dev nD) (j : S1024x128.Idx) : (dats m 0 c).after 6 lastPoint j = pooledTable m c j :=
  (congrFun (after6 m c lastPoint) j).trans (final_at m h c j)

/-- Two tables equal entry by entry are equal as the window's block and as the array. -/
theorem entries (X G : S1024x128.Idx → EReal) (h : ∀ j, X j = G j) (j : (cfg0.win 6).shape.Idx) :
    _root_.cast (congrArg (Elt Ideal) (cfg0.win 6).arr.view.elt_eq.symm) (X fun a => ⟨j a, whole_last.lt_size j a⟩)
      = G ((cfg0.win 6).arr.view.emb j) := h j

/-- The result array after the run is the table of pooled entries. -/
theorem result_eq (h : Nonneg m) (c : Dev nD) : (dats m 0 c).arrAt 6 cfg0.N = pooledTable m c := by
  exact (dats m 0 c).arrAt_eq_of_after_last 6 lastPoint whole_last _ (entries _ _ (after_last m h c))

/-- Every fair run of the kernel ends with the table of pooled entries in its result and its arguments as they were. -/
theorem run_value (ρ : Dev nD → PrngReg) (h : Nonneg m) :
    θ_run (defs (F := Ideal)) (onTc (τ := τ) (main (F := Ideal))) ⟨m, fun _ => 0, ρ⟩ (fun r => ∀ c : Dev nD,
      r.2.mem ((c.tc : Thread nD τ).loc main_v3) = pooledTable m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hrun := (θ_run (defs (F := Ideal)) _ _).mono (fun _ q => q.1) (run_main m ρ (meets m h))
  run_from hrun
  exact result_eq m h c

end Cert.KernelIdeal.Pool
-- ==== Proof.RI.Stages.lean ====
/- The reference's result cut into named stages: scores, segment maxima, weights, their sums, the guard, the pooled rows. -/
module

public import proofs.«01_k».proof.Proof.Gen.ReferenceIdeal.Run

@[expose] public section

noncomputable section

namespace Cert.ReferenceIdeal.Pool

open Idealize.ShloMosaic Idealize.ShloMosaic.TcCoe
open Cert.ReferenceIdeal Cert.ReferenceIdeal.Gen

variable {F : FTy → Type} [FloatOps F]

/-- The hidden layer before its activation. -/
def hiddenV (x : FVec F S100000x128 .f32) (W₁ : FVec F S128x64 .f32) (b₁ : FVec F S64 .f32) : FVec F S100000x64 .f32 :=
  addf (Host.dotGeneral dot_S100000x128_S128x64_S100000x64_1_0_0_1_n_n none x W₁)
    (broadcastInDim S100000x64 ![0, 1] bcast_S1x64_S100000x64_0_1 (broadcastInDim S1x64 ![1] bcast_S64_S1x64_1 b₁))

/-- The scores of the rows. -/
def scoresV (x : FVec F S100000x128 .f32) (W₁ : FVec F S128x64 .f32) (b₁ : FVec F S64 .f32) (W₂ : FVec F S64x1 .f32)
    (b₂ : FVec F S1 .f32) : FVec F S100000 .f32 :=
  shapeCast S100000 (addf (Host.dotGeneral dot_S100000x64_S64x1_S100000x1_1_0_0_1_n_n none
      (select (cmpf .ogt (hiddenV x W₁ b₁) (broadcastInDim S100000x64 ![] bcast_S_S100000x64 (constant S_ .f32 0x00000000#32)))
        (hiddenV x W₁ b₁)
        (mulf (broadcastInDim S100000x64 ![] bcast_S_S100000x64 (constant S_ .f32 0x3C23D70A#32)) (hiddenV x W₁ b₁))) W₂)
    (broadcastInDim S100000x1 ![0, 1] bcast_S1x1_S100000x1_0_1 (broadcastInDim S1x1 ![1] bcast_S1_S1x1_1 b₂)))
    shapeCasts_S100000x1_S100000

/-- The greatest score of each segment. -/
def maximaV (b : IVec S100000 32) (a : FVec F S100000 .f32) : FVec F S1024 .f32 :=
  Host.reduce FloatOps.maximumf
    (select
      (cmpi .eq (broadcastInDim S1024x100000 ![0, 1] bcast_S1x100000_S1024x100000_0_1 (broadcastInDim S1x100000 ![1] bcast_S100000_S1x100000_1 b))
        (broadcastInDim S1024x100000 ![0, 1] bcast_S1024x1_S1024x100000_0_1
          (broadcastInDim S1024x1 ![0] bcast_S1024_S1024x1_0 (iotaInDim S1024 32 0))))
      (broadcastInDim S1024x100000 ![0, 1] bcast_S1x100000_S1024x100000_0_1 (broadcastInDim S1x100000 ![1] bcast_S100000_S1x100000_1 a))
      (broadcastInDim S1024x100000 ![] bcast_S_S1024x100000 (id (constant S_ .f32 0xFF800000#32))))
    (constant S_ .f32 0xFF800000#32) reducesTo_S1024x100000_S1024_d1 h_S_

/-- The shift of each segment: its greatest score where that is finite, and zero elsewhere. -/
def shiftsV (M : FVec F S1024 .f32) : FVec F S1024 .f32 :=
  select (andi (cmpf .ogt M (broadcastInDim S1024 ![] bcast_S_S1024 (constant S_ .f32 0xFF800000#32)))
      (cmpf .olt M (broadcastInDim S1024 ![] bcast_S_S1024 (constant S_ .f32 0x7F800000#32))))
    M (broadcastInDim S1024 ![] bcast_S_S1024 (id (constant S_ .f32 0x00000000#32)))

/-- The column of segment numbers a table of segments is read at. -/
def placesV (b : IVec S100000 32) : IVec S100000x1 32 :=
  broadcastInDim S100000x1 ![0] bcast_S100000_S100000x1_0
    (select (cmpi .slt b (broadcastInDim S100000 ![] bcast_S_S100000 (constantI S_ 32 0#32)))
      (addi b (broadcastInDim S100000 ![] bcast_S_S100000 (constantI S_ 32 1024#32))) b)

/-- The column of segment numbers rows are added at. -/
def columnV (b : IVec S100000 32) : IVec S100000x1 32 := broadcastInDim S100000x1 ![0] bcast_S100000_S100000x1_0 b

/-- A table of segments read at every row's segment. -/
def takeV (t : FVec F S1024 .f32) (b : IVec S100000 32) : FVec F S100000 .f32 :=
  Host.gather gather_S1024_S100000x1_S100000_n_0_n_n_0_1_1 t (placesV b)

/-- The shifted weights. -/
def weightsV (a : FVec F S100000 .f32) (b : IVec S100000 32) (s : FVec F S1024 .f32) : FVec F S100000 .f32 :=
  Host.exp (subf a (takeV s b))

/-- The sum of each segment's weights. -/
def densV (e : FVec F S100000 .f32) (b : IVec S100000 32) : FVec F S1024 .f32 :=
  Host.scatterAdd scatter_S1024_S100000x1_S100000_n_0_0_1 (broadcastInDim S1024 ![] bcast_S_S1024 (constant S_ .f32 0x00000000#32))
    (columnV b) e

/-- The guard of each segment. -/
def guardsV (s : FVec F S1024 .f32) : FVec F S1024 .f32 :=
  mulf (broadcastInDim S1024 ![] bcast_S_S1024 (constant S_ .f32 0x24E69595#32)) (Host.exp (Host.negf s))

/-- The normalised weights. -/
def sharesV (e : FVec F S100000 .f32) (b : IVec S100000 32) (s : FVec F S1024 .f32) : FVec F S100000 .f32 :=
  Host.divf e (addf (takeV (densV e b) b) (takeV (guardsV s) b))

/-- The pooled rows. -/
def pooledV (x : FVec F S100000x128 .f32) (b : IVec S100000 32) (w : FVec F S100000 .f32) : FVec F S1024x128 .f32 :=
  Host.scatterAdd scatter_S1024x128_S100000x1_S100000x128_1_0_0_1
    (broadcastInDim S1024x128 ![] bcast_S_S1024x128 (constant S_ .f32 0x00000000#32)) (columnV b)
    (mulf x (broadcastInDim S100000x128 ![0, 1] bcast_S100000x1_S100000x128_0_1
      (broadcastInDim S100000x1 ![0] bcast_S100000_S100000x1_0 w)))

variable (m : (ℓ : Loc nD τ sig) → Buf (Elt F) ℓ) (c : Dev nD)

/-- The reference's scores. -/
def scoresOf : FVec F S100000 .f32 :=
  scoresV (m ((c : Thread nD τ).loc main_arg0)) (m ((c : Thread nD τ).loc main_arg2)) (m ((c : Thread nD τ).loc main_arg3))
    (m ((c : Thread nD τ).loc main_arg4)) (m ((c : Thread nD τ).loc main_arg5))

/-- The reference's shifts. -/
def shiftsOf : FVec F S1024 .f32 := shiftsV (maximaV (m ((c : Thread nD τ).loc main_arg1)) (scoresOf m c))

/-- The reference's shifted weights. -/
def weightsOf : FVec F S100000 .f32 := weightsV (scoresOf m c) (m ((c : Thread nD τ).loc main_arg1)) (shiftsOf m c)

set_option maxRecDepth 8192 in
/-- The reference's result is the last stage. -/
theorem result_stages : Value.res_out0 m c
    = pooledV (m ((c : Thread nD τ).loc main_arg0)) (m ((c : Thread nD τ).loc main_arg1))
        (sharesV (weightsOf m c) (m ((c : Thread nD τ).loc main_arg1)) (shiftsOf m c)) := by
  unfold Value.res_out0 Value.res_main_v66 weightsOf shiftsOf scoresOf pooledV sharesV guardsV densV weightsV takeV columnV placesV shiftsV maximaV scoresV hiddenV
  rfl

end Cert.ReferenceIdeal.Pool
-- ==== Proof.RI.Lands.lean ====
/- Where the reference's segment sums put each row, and what its tables of segments hold when a row reads them. -/
module

public import proofs.«01_k».proof.Proof.RI.Stages
public import Idealize.ShloMosaic.PureOps.Ideal.Laws
public import Idealize.ShloMosaic.Lib.Routing.OpsPair
public import Idealize.ShloMosaic.Lib.Pointwise.Index
public import Idealize.ShloMosaic.Lib.StableHlo.Predicate

@[expose] public section

noncomputable section

namespace Cert.ReferenceIdeal.Pool

open Idealize.ShloMosaic
open Cert.ReferenceIdeal Cert.ReferenceIdeal.Gen

/-- The scatter that adds one number per row to the table of segments. -/
abbrev addOne : ScatterDims S1024 S100000x1 S100000 := scatter_S1024_S100000x1_S100000_n_0_0_1

/-- The scatter that adds one row of `x` per row to the table of segments. -/
abbrev addRow : ScatterDims S1024x128 S100000x1 S100000x128 := scatter_S1024x128_S100000x1_S100000x128_1_0_0_1

/-- A number is added at the place its row's column entry names. -/
theorem start_one (idx : IVec S100000x1 32) (k : Fin 100000) :
    addOne.start (ix1 k) idx 0 = (idx (ix2 k (0 : Fin 1))).toInt := by
  have hm : (0 : Fin S1024.rank) ∈ addOne.scatterDimsToOperandDims := List.mem_singleton.2 rfl
  unfold ScatterDims.start
  rw [dif_pos hm]
  refine congrArg (fun p => (idx p).toInt) ?_
  funext b
  apply Fin.ext
  match b with
  | ⟨0, _⟩ => rfl
  | ⟨1, _⟩ => rfl

/-- A row is added at the place its column entry names. -/
theorem start_row (idx : IVec S100000x1 32) (k : Fin 100000) (d : Fin 128) :
    addRow.start (ix2 k d) idx 0 = (idx (ix2 k (0 : Fin 1))).toInt := by
  have hm : (0 : Fin S1024x128.rank) ∈ addRow.scatterDimsToOperandDims := List.mem_singleton.2 rfl
  unfold ScatterDims.start
  rw [dif_pos hm]
  refine congrArg (fun p => (idx p).toInt) ?_
  funext b
  apply Fin.ext
  match b with
  | ⟨0, _⟩ => rfl
  | ⟨1, _⟩ => rfl

/-- Number `k` is added to segment `g` exactly when its column entry is `g`. -/
theorem lands_one (idx : IVec S100000x1 32) (k : Fin 100000) (g : Fin 1024) :
    addOne.resultIdx? (ix1 k) idx = some (ix1 g) ↔ (idx (ix2 k (0 : Fin 1))).toInt = (g.val : ℤ) := by
  rw [Routing.resultIdx?_eq_some]
  have hw : addOne.window (ix1 k) 0 = 0 := rfl
  constructor
  · intro h
    have h0 := h 0
    rw [start_one, hw] at h0
    simpa using h0
  · intro h a
    obtain rfl : a = 0 := Subsingleton.elim (α := Fin 1) _ _
    rw [start_one, hw, h]
    simp

/-- Entry `e` of row `k` is added to entry `d` of segment `g` exactly when the row's column entry is `g` and `e = d`. -/
theorem lands_row (idx : IVec S100000x1 32) (k : Fin 100000) (e : Fin 128) (g : Fin 1024) (d : Fin 128) :
    addRow.resultIdx? (ix2 k e) idx = some (ix2 g d) ↔ (idx (ix2 k (0 : Fin 1))).toInt = (g.val : ℤ) ∧ e = d := by
  rw [Routing.resultIdx?_eq_some]
  have hw0 : addRow.window (ix2 k e) 0 = 0 := rfl
  have hw1 : addRow.window (ix2 k e) 1 = e.val := rfl
  have hs1 : addRow.start (ix2 k e) idx 1 = 0 := rfl
  constructor
  · intro h
    have h0 := h 0
    have h1 := h 1
    rw [start_row, hw0] at h0
    rw [hs1, hw1] at h1
    refine ⟨by simpa using h0, Fin.ext ?_⟩
    have h2 : ((e.val : ℕ) : ℤ) = ((d.val : ℕ) : ℤ) := by simpa using h1
    exact_mod_cast h2
  · rintro ⟨h, rfl⟩ a
    match a with
    | ⟨0, _⟩ =>
      show addRow.start (ix2 k e) idx 0 + (addRow.window (ix2 k e) 0 : ℤ) = _
      rw [start_row, hw0, h]
      simp
    | ⟨1, _⟩ =>
      show addRow.start (ix2 k e) idx 1 + (addRow.window (ix2 k e) 1 : ℤ) = _
      rw [hs1, hw1]
      simp

/-- The column of segment numbers holds each row's own number. -/
theorem columnV_at (b : IVec S100000 32) (k : Fin 100000) : columnV b (ix2 k (0 : Fin 1)) = b (ix1 k) := by
  unfold columnV broadcastInDim
  refine congrArg b ?_
  funext a
  match a with
  | ⟨0, _⟩ => rfl

/-- A word that is read as a segment number is that number's word, and the reverse. -/
theorem word_iff (w : BitVec 32) (g : Fin 1024) : w.toInt = (g.val : ℤ) ↔ w = BitVec.ofNat 32 g.val := by
  have hg : (BitVec.ofNat 32 g.val).toInt = (g.val : ℤ) :=
    StableHlo.Predicate.toInt_ofNat_small g.val (by have := g.isLt; omega)
  constructor
  · intro h
    exact BitVec.eq_of_toInt_eq (h.trans hg.symm)
  · rintro rfl
    exact hg

/-- A table of numbers added by segment: entry `g` is the sum of the numbers of segment `g`'s rows. -/
theorem sum_one (z : FVec Ideal S1024 .f32) (b : IVec S100000 32) (u : FVec Ideal S100000 .f32) (g : Fin 1024) (hz : z (ix1 g) = 0) :
    (Host.scatterAdd addOne z (columnV b) u : FVec Ideal S1024 .f32) (ix1 g)
      = ∑ k ∈ Finset.univ.filter (fun k : Fin 100000 => b (ix1 k) = BitVec.ofNat 32 g.val), u (ix1 k) := by
  show (z (ix1 g) : EReal) + ∑ j ∈ Finset.univ.filter (fun j => addOne.resultIdx? j (columnV b) = some (ix1 g)), u j = _
  rw [hz, zero_add, Finset.sum_filter, Finset.sum_filter]
  refine (sum_idx1 _).trans (Finset.sum_congr rfl fun k _ => ?_)
  refine if_congr ?_ rfl rfl
  rw [lands_one, columnV_at, word_iff]

/-- A table of rows added by segment: entry `(g, d)` is the sum of entry `d` over segment `g`'s rows. -/
theorem sum_row (z : FVec Ideal S1024x128 .f32) (b : IVec S100000 32) (u : FVec Ideal S100000x128 .f32) (g : Fin 1024) (d : Fin 128)
    (hz : z (ix2 g d) = 0) :
    (Host.scatterAdd addRow z (columnV b) u : FVec Ideal S1024x128 .f32) (ix2 g d)
      = ∑ k ∈ Finset.univ.filter (fun k : Fin 100000 => b (ix1 k) = BitVec.ofNat 32 g.val), u (ix2 k d) := by
  show (z (ix2 g d) : EReal) + ∑ j ∈ Finset.univ.filter (fun j => addRow.resultIdx? j (columnV b) = some (ix2 g d)), u j = _
  rw [hz, zero_add, Finset.sum_filter, Finset.sum_filter]
  refine (sum_idx2 _).trans (Finset.sum_congr rfl fun k _ => ?_)
  have hk : ∀ e : Fin 128, (if addRow.resultIdx? (ix2 k e) (columnV b) = some (ix2 g d) then u (ix2 k e) else (0 : EReal))
      = if e = d then (if b (ix1 k) = BitVec.ofNat 32 g.val then u (ix2 k e) else 0) else 0 := by
    intro e
    have hl : addRow.resultIdx? (ix2 k e) (columnV b) = some (ix2 g d) ↔ e = d ∧ b (ix1 k) = BitVec.ofNat 32 g.val := by
      rw [lands_row, columnV_at, word_iff]
      exact and_comm
    exact (if_congr hl rfl rfl).trans (ite_and _ _ _ _)
  refine (Finset.sum_congr rfl fun e _ => hk e).trans ?_
  exact (Finset.sum_ite_eq' Finset.univ d _).trans (if_pos (Finset.mem_univ d))

/-- The place a row of segment `g` reads a table at. -/
theorem placesV_at (b : IVec S100000 32) (k : Fin 100000) (g : Fin 1024) (h : b (ix1 k) = BitVec.ofNat 32 g.val) :
    placesV b (ix2 k (0 : Fin 1)) = BitVec.ofNat 32 g.val := by
  have e : placesV b (ix2 k (0 : Fin 1))
      = Scalar.select (IntOp.cmpi .slt (b (ix1 k)) 0#32) (b (ix1 k) + 1024#32) (b (ix1 k)) :=
    columnV_at (select (cmpi .slt b (broadcastInDim S100000 ![] bcast_S_S100000 (constantI S_ 32 0#32)))
      (addi b (broadcastInDim S100000 ![] bcast_S_S100000 (constantI S_ 32 1024#32))) b) k
  rw [e, h]
  refine Routing.wrap_of_lt _ _ ?_
  have := g.isLt
  rw [BitVec.toNat_ofNat, Nat.mod_eq_of_lt (by omega)]
  omega

/-- A row of segment `g` reads a table of segments at entry `g`. -/
theorem takeV_at (t : FVec Ideal S1024 .f32) (b : IVec S100000 32) (k : Fin 100000) (g : Fin 1024)
    (h : b (ix1 k) = BitVec.ofNat 32 g.val) : takeV t b (ix1 k) = t (ix1 g) := by
  have hi : (ix1 k : S100000.Idx) = Shape.Idx.ofFin k := by
    funext a
    match a with
    | ⟨0, _⟩ => rfl
  unfold takeV
  rw [hi, StableHlo.Predicate.gather_take gather_S1024_S100000x1_S100000_n_0_n_n_0_1_1 rfl rfl rfl rfl t (placesV b) k (by decide)]
  refine congrArg t ?_
  have hp : placesV b (StableHlo.Predicate.ixP k) = BitVec.ofNat 32 g.val := by
    refine Eq.trans (congrArg (placesV b) ?_) (placesV_at b k g h)
    funext a
    match a with
    | ⟨0, _⟩ => rfl
    | ⟨1, _⟩ => rfl
  funext a
  match a with
  | ⟨0, _⟩ =>
    apply Fin.ext
    show min (placesV b (StableHlo.Predicate.ixP k)).toInt.toNat (1024 - 1) = g.val
    rw [hp, (word_iff _ g).mpr rfl]
    have := g.isLt
    omega

end Cert.ReferenceIdeal.Pool
-- ==== Proof.Math.Softmax.lean ====
/- The identity between the two ways of pooling one segment, over the extended reals: weights normalised after the sum,
   or each weight normalised first with every score shifted by one real number. -/
module

public import Idealize.ShloMosaic.PureOps
public import Idealize.ShloMosaic.PureOps.Ideal.Laws
public import Idealize.ShloMosaic.Lib.IdealHost

@[expose] public section

noncomputable section

namespace Cert.Softmax

open Idealize.ShloMosaic

variable {ι : Type}

/-- The exponential is nowhere negative. -/
theorem exp_nonneg (a : EReal) : 0 ≤ Ideal.exp a := by
  induction a with
  | bot => exact le_refl _
  | coe r => exact EReal.coe_nonneg.mpr (Real.exp_pos r).le
  | top => exact le_top

/-- The exponential of anything but plus infinity is a real number that is not negative, and shifting its argument by a real
    number `m` multiplies it by `exp (-m)`. -/
theorem exp_shift (a : EReal) (h : a ≠ ⊤) (m : ℝ) :
    ∃ r : ℝ, 0 ≤ r ∧ Ideal.exp a = (r : EReal) ∧ Ideal.exp (a - (m : EReal)) = ((r * Real.exp (-m) : ℝ) : EReal) := by
  induction a with
  | bot =>
    refine ⟨0, le_refl _, rfl, ?_⟩
    rw [EReal.bot_sub, zero_mul]
    rfl
  | coe r =>
    refine ⟨Real.exp r, (Real.exp_pos r).le, rfl, ?_⟩
    rw [← EReal.coe_sub, sub_eq_add_neg, ← Real.exp_add]
    rfl
  | top => exact absurd rfl h

/-- Plus infinity shifted by a real number still has the exponential plus infinity. -/
theorem exp_top_shift (m : ℝ) : Ideal.exp (⊤ - (m : EReal)) = ⊤ := by
  rw [EReal.top_sub_coe]
  rfl

/-- A sum of real numbers, taken over the extended reals. -/
theorem sum_coe (S : Finset ι) (r : ι → ℝ) : (∑ i ∈ S, (r i : EReal)) = ((∑ i ∈ S, r i : ℝ) : EReal) := by
  classical
  induction S using Finset.induction_on with
  | empty => simp
  | insert i S hi ih => rw [Finset.sum_insert hi, Finset.sum_insert hi, ih, EReal.coe_add]

/-- Multiplication by a real number that is not negative goes inside a sum of extended reals. -/
theorem sum_mul_real (S : Finset ι) (f : ι → EReal) (k : ℝ) (hk : 0 ≤ k) :
    (∑ i ∈ S, f i) * (k : EReal) = ∑ i ∈ S, f i * (k : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hk) (EReal.coe_ne_top k) _ _

/-- A sum of terms none of which is negative, one of them plus infinity, is plus infinity. -/
theorem sum_eq_top (S : Finset ι) (f : ι → EReal) (hf : ∀ i ∈ S, 0 ≤ f i) (i : ι) (hi : i ∈ S) (h : f i = ⊤) :
    ∑ j ∈ S, f j = ⊤ :=
  top_le_iff.mp (h ▸ Finset.single_le_sum hf hi)

/-- Pooling one segment `S` of rows with scores `a`: dividing the weighted sum by the sum of the weights and the guard `ε` is
    the sum of the values weighted by each shifted weight's share, the guard on the shifted scale. It holds at every
    extended real score and value, for any real shift `m` and any positive guard. -/
theorem pooled (S : Finset ι) (a x : ι → EReal) (m ε : ℝ) (hε : 0 < ε) :
    Ideal.div (∑ i ∈ S, x i * Ideal.exp (a i)) (∑ i ∈ S, Ideal.exp (a i) + (ε : EReal))
      = ∑ i ∈ S, x i * Ideal.div (Ideal.exp (a i - (m : EReal)))
          (∑ k ∈ S, Ideal.exp (a k - (m : EReal)) + (ε : EReal) * Ideal.exp (-(m : EReal))) := by
  classical
  have hguard : (ε : EReal) * Ideal.exp (-(m : EReal)) = ((ε * Real.exp (-m) : ℝ) : EReal) := by
    rw [← EReal.coe_neg]
    exact (EReal.coe_mul _ _).symm
  rw [hguard]
  by_cases htop : ∃ i ∈ S, a i = ⊤
  · obtain ⟨i, hi, ha⟩ := htop
    have hD : ∑ j ∈ S, Ideal.exp (a j) = ⊤ :=
      sum_eq_top S _ (fun j _ => exp_nonneg _) i hi (by rw [ha]; rfl)
    have hD' : ∑ j ∈ S, Ideal.exp (a j - (m : EReal)) = ⊤ :=
      sum_eq_top S _ (fun j _ => exp_nonneg _) i hi (by rw [ha]; exact exp_top_shift m)
    have hdiv : ∀ y : EReal, Ideal.div y ⊤ = 0 := fun y => by
      unfold Ideal.div
      rw [if_neg (by simp), EReal.inv_top, mul_zero]
    rw [hD, hD', EReal.top_add_coe, EReal.top_add_coe, hdiv]
    exact (Finset.sum_eq_zero fun j _ => by rw [hdiv, mul_zero]).symm
  · have hne : ∀ i ∈ S, a i ≠ ⊤ := fun i hi h => htop ⟨i, hi, h⟩
    choose! r hr using fun (i : ι) (hi : i ∈ S) => exp_shift (a i) (hne i hi) m
    have hK : 0 < Real.exp (-m) := Real.exp_pos _
    have hR : 0 < ∑ i ∈ S, r i + ε := add_pos_of_nonneg_of_pos (Finset.sum_nonneg fun i hi => (hr i hi).1) hε
    have hD : ∑ i ∈ S, Ideal.exp (a i) + (ε : EReal) = ((∑ i ∈ S, r i + ε : ℝ) : EReal) := by
      rw [Finset.sum_congr rfl fun i hi => (hr i hi).2.1, sum_coe, EReal.coe_add]
    have hD' : ∑ i ∈ S, Ideal.exp (a i - (m : EReal)) + ((ε * Real.exp (-m) : ℝ) : EReal)
        = (((∑ i ∈ S, r i + ε) * Real.exp (-m) : ℝ) : EReal) := by
      rw [Finset.sum_congr rfl fun i hi => (hr i hi).2.2, sum_coe, ← EReal.coe_add, ← Finset.sum_mul, ← add_mul]
    have hdiv : ∀ (y : EReal) (z : ℝ), z ≠ 0 → Ideal.div y (z : EReal) = y * ((z⁻¹ : ℝ) : EReal) := fun y z hz => by
      unfold Ideal.div
      rw [if_neg (by exact_mod_cast hz), EReal.coe_inv]
    rw [hD, hD', hdiv _ _ hR.ne', sum_mul_real S _ _ (inv_nonneg.mpr hR.le)]
    refine Finset.sum_congr rfl fun i hi => ?_
    rw [hdiv _ _ (mul_pos hR hK).ne', (hr i hi).2.1, (hr i hi).2.2, mul_assoc, ← EReal.coe_mul, ← EReal.coe_mul]
    congr 2
    field_simp

/-- The guard's constant is a positive real number. -/
theorem guard_pos : ∃ ε : ℝ, 0 < ε ∧ Ideal.ofBits .f32 0x24E69595#32 = (ε : EReal) := by
  refine ⟨_, ?_, by simp [Ideal.ofBits, Ideal.ieee]; rfl⟩
  positivity

end Cert.Softmax
-- ==== Proof.RI.Entries.lean ====
/- The reference's stages read at one row or one segment, over the extended reals, and its result at one entry. -/
module

public import proofs.«01_k».proof.Proof.RI.Lands
public import proofs.«01_k».proof.Proof.Math.Softmax
public import proofs.«01_k».proof.Proof.Math.Score
public import Idealize.ShloMosaic.Lib.Pointwise

@[expose] public section

noncomputable section

namespace Cert.ReferenceIdeal.Pool

open Idealize.ShloMosaic Idealize.ShloMosaic.Tactic
open Cert.ReferenceIdeal Cert.ReferenceIdeal.Gen Cert.Softmax

/-- The score of row `k`. -/
theorem scoresV_at (x : FVec Ideal S100000x128 .f32) (W₁ : FVec Ideal S128x64 .f32) (b₁ : FVec Ideal S64 .f32)
    (W₂ : FVec Ideal S64x1 .f32) (b₂ : FVec Ideal S1 .f32) (k : Fin 100000) :
    scoresV x W₁ b₁ W₂ b₂ (ix1 k)
      = score (fun d => x (ix2 k d)) (fun d h => W₁ (ix2 d h)) (fun h => b₁ (ix1 h)) (fun h => W₂ (ix2 h (0 : Fin 1))) (b₂ (ix1 (0 : Fin 1))) := by
  pointwise [scoresV, hiddenV, score, leaky, Cert.Softmax.hidden]

/-- The word of minus infinity. -/
theorem minus_infinity : Ideal.ofBits .f32 0xFF800000#32 = ⊥ := by simp [Ideal.ofBits, Ideal.ieee]

/-- The word of plus infinity. -/
theorem plus_infinity : Ideal.ofBits .f32 0x7F800000#32 = ⊤ := by simp [Ideal.ofBits, Ideal.ieee]

/-- A choice between a value strictly between the infinities and zero, by the two comparisons, is a real number. -/
theorem choice_real (v z : EReal) (hz : z = 0) :
    ∃ r : ℝ, Scalar.select (IntOp.andi (BitVec.ofBool (decide (Ideal.ofBits .f32 0xFF800000#32 < v)))
      (BitVec.ofBool (decide (v < Ideal.ofBits .f32 0x7F800000#32)))) v z = (r : EReal) := by
  rw [minus_infinity, plus_infinity, hz]
  induction v using EReal.rec with
  | bot => exact ⟨0, by simp [Scalar.select, IntOp.andi]⟩
  | top => exact ⟨0, by simp [Scalar.select, IntOp.andi]⟩
  | coe r => exact ⟨r, by simp [Scalar.select, IntOp.andi]⟩

/-- Every shift is a real number. -/
theorem shiftsV_real (M : FVec Ideal S1024 .f32) (g : Fin 1024) : ∃ r : ℝ, shiftsV M (ix1 g) = (r : EReal) :=
  choice_real (M (ix1 g)) _ Ideal.ofBits_zero_f32

/-- The guard of segment `g`. -/
theorem guardsV_at (s : FVec Ideal S1024 .f32) (g : Fin 1024) :
    guardsV s (ix1 g) = Ideal.ofBits .f32 0x24E69595#32 * Ideal.exp (-(s (ix1 g) : EReal)) := by
  pointwise [guardsV]

/-- The shifted weight of a row of segment `g`. -/
theorem weightsV_at (a : FVec Ideal S100000 .f32) (b : IVec S100000 32) (s : FVec Ideal S1024 .f32) (k : Fin 100000) (g : Fin 1024)
    (h : b (ix1 k) = BitVec.ofNat 32 g.val) :
    weightsV a b s (ix1 k) = Ideal.exp ((a (ix1 k) : EReal) - s (ix1 g)) := by
  show Ideal.exp ((a (ix1 k) : EReal) - takeV s b (ix1 k)) = _
  rw [takeV_at s b k g h]

/-- The sum of segment `g`'s weights. -/
theorem densV_at (e : FVec Ideal S100000 .f32) (b : IVec S100000 32) (g : Fin 1024) :
    densV e b (ix1 g) = ∑ k ∈ Finset.univ.filter (fun k : Fin 100000 => b (ix1 k) = BitVec.ofNat 32 g.val), (e (ix1 k) : EReal) :=
  sum_one _ b e g Ideal.ofBits_zero_f32

/-- A quotient by a sum, at one row. -/
theorem quotient_at (e p q : FVec Ideal S100000 .f32) (k : Fin 100000) :
    (Host.divf e (addf p q) : FVec Ideal S100000 .f32) (ix1 k) = Ideal.div (e (ix1 k)) ((p (ix1 k) : EReal) + q (ix1 k)) := rfl

/-- The normalised weight of a row of segment `g`. -/
theorem sharesV_at (e : FVec Ideal S100000 .f32) (b : IVec S100000 32) (s : FVec Ideal S1024 .f32) (k : Fin 100000) (g : Fin 1024)
    (h : b (ix1 k) = BitVec.ofNat 32 g.val) :
    sharesV e b s (ix1 k) = Ideal.div (e (ix1 k)) ((densV e b (ix1 g) : EReal) + guardsV s (ix1 g)) := by
  refine (quotient_at e _ _ k).trans ?_
  rw [takeV_at _ b k g h, takeV_at _ b k g h]

/-- Entry `d` of segment `g` of the pooled rows. -/
theorem pooledV_at (x : FVec Ideal S100000x128 .f32) (b : IVec S100000 32) (w : FVec Ideal S100000 .f32) (g : Fin 1024) (d : Fin 128) :
    pooledV x b w (ix2 g d)
      = ∑ k ∈ Finset.univ.filter (fun k : Fin 100000 => b (ix1 k) = BitVec.ofNat 32 g.val), (x (ix2 k d) : EReal) * w (ix1 k) := by
  refine (sum_row _ b _ g d Ideal.ofBits_zero_f32).trans (Finset.sum_congr rfl fun k _ => ?_)
  pointwise []

/-- The pooled rows with the stages' weights, at one entry: the sum of the segment's rows multiplied by the exponentials of
    their scores, divided by the sum of these exponentials and the guard. The shift `M` cancels whatever it is. -/
theorem pooled_entry (x : FVec Ideal S100000x128 .f32) (b : IVec S100000 32) (a : FVec Ideal S100000 .f32) (M : FVec Ideal S1024 .f32)
    (g : Fin 1024) (d : Fin 128) :
    pooledV x b (sharesV (weightsV a b (shiftsV M)) b (shiftsV M)) (ix2 g d)
      = Ideal.div (∑ k ∈ Finset.univ.filter (fun k : Fin 100000 => b (ix1 k) = BitVec.ofNat 32 g.val), (x (ix2 k d) : EReal) * Ideal.exp (a (ix1 k)))
          (∑ k ∈ Finset.univ.filter (fun k : Fin 100000 => b (ix1 k) = BitVec.ofNat 32 g.val), Ideal.exp (a (ix1 k))
            + Ideal.ofBits .f32 0x24E69595#32) := by
  obtain ⟨r, hr⟩ := shiftsV_real M g
  obtain ⟨ε, hε, hg⟩ := guard_pos
  have hw : ∀ k ∈ Finset.univ.filter (fun k : Fin 100000 => b (ix1 k) = BitVec.ofNat 32 g.val),
      (weightsV a b (shiftsV M) (ix1 k) : EReal) = Ideal.exp ((a (ix1 k) : EReal) - (r : EReal)) := fun k hk => by
    rw [weightsV_at a b _ k g (Finset.mem_filter.mp hk).2, hr]
  rw [hg]
  refine Eq.trans ?_ (pooled _ (fun k : Fin 100000 => (a (ix1 k) : EReal)) (fun k => (x (ix2 k d) : EReal)) r ε hε).symm
  refine (pooledV_at x b _ g d).trans (Finset.sum_congr rfl fun k hk => ?_)
  rw [sharesV_at _ b _ k g (Finset.mem_filter.mp hk).2, densV_at, guardsV_at, hw k hk, Finset.sum_congr rfl hw, hr, hg]

end Cert.ReferenceIdeal.Pool
-- ==== Proof.Both.Equal.lean ====
/- The kernel's table of pooled entries and the reference's result are the same function of the six arguments. -/
module

public import proofs.«01_k».proof.Proof.KI.Value
public import proofs.«01_k».proof.Proof.RI.Entries

@[expose] public section

noncomputable section

namespace Cert.Pooled

open Idealize.ShloMosaic Idealize.ShloMosaic.TcCoe Cert.Softmax

/-- The shapes of the arguments: rows, segment numbers, and the two layers. -/
abbrev Rows : Type := (⟨2, ![100000, 128]⟩ : Shape).Idx → EReal
abbrev Numbers : Type := (⟨1, ![100000]⟩ : Shape).Idx → BitVec 32
abbrev Layer : Type := (⟨2, ![128, 64]⟩ : Shape).Idx → EReal
abbrev Bias : Type := (⟨1, ![64]⟩ : Shape).Idx → EReal
abbrev Last : Type := (⟨2, ![64, 1]⟩ : Shape).Idx → EReal
abbrev Offset : Type := (⟨1, ![1]⟩ : Shape).Idx → EReal

/-- The score of row `k`. -/
def scoreOf (x : Rows) (W₁ : Layer) (b₁ : Bias) (W₂ : Last) (b₂ : Offset) (k : Fin 100000) : EReal :=
  score (fun d => x (ix2 k d)) (fun d h => W₁ (ix2 d h)) (fun h => b₁ (ix1 h)) (fun h => W₂ (ix2 h (0 : Fin 1))) (b₂ (ix1 (0 : Fin 1)))

/-- The rows of segment `g`. -/
def members (b : Numbers) (g : Fin 1024) : Finset (Fin 100000) :=
  Finset.univ.filter fun k : Fin 100000 => b (ix1 k) = BitVec.ofNat 32 g.val

/-- Entry `d` of segment `g`: the sum of the segment's rows multiplied by the exponentials of their scores, divided by the sum
    of these exponentials and the guard. -/
def entryOf (x : Rows) (b : Numbers) (W₁ : Layer) (b₁ : Bias) (W₂ : Last) (b₂ : Offset) (g : Fin 1024) (d : Fin 128) : EReal :=
  Ideal.div (∑ k ∈ members b g, x (ix2 k d) * Ideal.exp (scoreOf x W₁ b₁ W₂ b₂ k))
    (∑ k ∈ members b g, Ideal.exp (scoreOf x W₁ b₁ W₂ b₂ k) + Ideal.ofBits .f32 0x24E69595#32)

/-- The kernel's table holds these entries. -/
theorem kernel_entry (m : (ℓ : Loc KernelIdeal.nD KernelIdeal.τ KernelIdeal.sig) → Buf (Elt Ideal) ℓ) (c : Dev KernelIdeal.nD)
    (g : Fin 1024) (d : Fin 128) :
    KernelIdeal.Pool.pooledEntry m c g d
      = entryOf (m ((c : Thread KernelIdeal.nD KernelIdeal.τ).loc KernelIdeal.main_arg0))
          (m ((c : Thread KernelIdeal.nD KernelIdeal.τ).loc KernelIdeal.main_arg1))
          (m ((c : Thread KernelIdeal.nD KernelIdeal.τ).loc KernelIdeal.main_arg2))
          (m ((c : Thread KernelIdeal.nD KernelIdeal.τ).loc KernelIdeal.main_arg3))
          (m ((c : Thread KernelIdeal.nD KernelIdeal.τ).loc KernelIdeal.main_arg4))
          (m ((c : Thread KernelIdeal.nD KernelIdeal.τ).loc KernelIdeal.main_arg5)) g d := by
  unfold KernelIdeal.Pool.pooledEntry entryOf
  refine congrArg₂ (fun p q : EReal => Ideal.div p (q + Ideal.ofBits .f32 0x24E69595#32)) ?_ ?_
  · exact (Finset.sum_filter _ _).symm
  · exact (Finset.sum_filter _ _).symm

/-- The reference's result holds these entries. -/
theorem reference_entry (m : (ℓ : Loc ReferenceIdeal.nD ReferenceIdeal.τ ReferenceIdeal.sig) → Buf (Elt Ideal) ℓ)
    (c : Dev ReferenceIdeal.nD) (i : ReferenceIdeal.S1024x128.Idx) :
    (ReferenceIdeal.Value.res_out0 m c : ReferenceIdeal.S1024x128.Idx → EReal) i
      = entryOf (m ((c : Thread ReferenceIdeal.nD ReferenceIdeal.τ).loc ReferenceIdeal.main_arg0))
          (m ((c : Thread ReferenceIdeal.nD ReferenceIdeal.τ).loc ReferenceIdeal.main_arg1))
          (m ((c : Thread ReferenceIdeal.nD ReferenceIdeal.τ).loc ReferenceIdeal.main_arg2))
          (m ((c : Thread ReferenceIdeal.nD ReferenceIdeal.τ).loc ReferenceIdeal.main_arg3))
          (m ((c : Thread ReferenceIdeal.nD ReferenceIdeal.τ).loc ReferenceIdeal.main_arg4))
          (m ((c : Thread ReferenceIdeal.nD ReferenceIdeal.τ).loc ReferenceIdeal.main_arg5)) (i 0) (i 1) := by
  refine (congrFun (ReferenceIdeal.Pool.result_stages m c) i).trans ?_
  have e : i = ix2 (i 0) (i 1) := (ix2_eta i).symm
  refine (congrArg (ReferenceIdeal.Pool.pooledV _ _ _) e).trans ?_
  refine (ReferenceIdeal.Pool.pooled_entry _ _ _ _ (i 0) (i 1)).trans ?_
  have hs : ∀ k : Fin 100000, (ReferenceIdeal.Pool.scoresOf m c (ix1 k) : EReal)
      = scoreOf (m ((c : Thread ReferenceIdeal.nD ReferenceIdeal.τ).loc ReferenceIdeal.main_arg0))
          (m ((c : Thread ReferenceIdeal.nD ReferenceIdeal.τ).loc ReferenceIdeal.main_arg2))
          (m ((c : Thread ReferenceIdeal.nD ReferenceIdeal.τ).loc ReferenceIdeal.main_arg3))
          (m ((c : Thread ReferenceIdeal.nD ReferenceIdeal.τ).loc ReferenceIdeal.main_arg4))
          (m ((c : Thread ReferenceIdeal.nD ReferenceIdeal.τ).loc ReferenceIdeal.main_arg5)) k :=
    fun k => ReferenceIdeal.Pool.scoresV_at _ _ _ _ _ k
  unfold entryOf members
  refine congrArg₂ (fun p q : EReal => Ideal.div p (q + Ideal.ofBits .f32 0x24E69595#32)) ?_ ?_
  · exact Finset.sum_congr rfl fun k _ => congrArg (fun s => _ * Ideal.exp s) (hs k)
  · exact Finset.sum_congr rfl fun k _ => congrArg Ideal.exp (hs k)

/-- From memories that agree on the arguments, the reference's result is the kernel's table. -/
theorem reference_eq_kernel (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h1 : m' ((c.tc : Thread ReferenceIdeal.nD ReferenceIdeal.τ).loc ReferenceIdeal.main_arg1)
      = m ((c.tc : Thread KernelIdeal.nD KernelIdeal.τ).loc KernelIdeal.main_arg1))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4))
    (h5 : m' ((c.tc : Thread ReferenceIdeal.nD ReferenceIdeal.τ).loc ReferenceIdeal.main_arg5)
      = m ((c.tc : Thread KernelIdeal.nD KernelIdeal.τ).loc KernelIdeal.main_arg5)) :
    (ReferenceIdeal.Value.res_out0 m' c : ReferenceIdeal.S1024x128.Idx → EReal) = KernelIdeal.Pool.pooledTable m c := by
  funext i
  refine (reference_entry m' c i).trans ?_
  refine Eq.trans ?_ (kernel_entry m c (i 0) (i 1)).symm
  exact congrFun (congrFun (congr (congr (congr (congr (congr (congrArg entryOf h0) h1) h2) h3) h4) h5) (i 0)) (i 1)

end Cert.Pooled

end
-- ==== Proof.lean ====
module

public import proofs.«01_k».proof.Defs
public import proofs.«01_k».proof.Proof.Gen.Pre_batch_named
public import proofs.«01_k».proof.Proof.Gen.ReferenceIdeal.Run
public import proofs.«01_k».proof.Proof.KI.Claim
public import proofs.«01_k».proof.Proof.KB.Claim
public import proofs.«01_k».proof.Proof.Both.Equal

@[expose] public section

set_option maxRecDepth 16384

noncomputable section

namespace Cert.Proof

open Idealize.ShloMosaic Idealize.ShloMosaic.TcCoe Idealize.SL.Sem

/-- The kernel's frame. -/
theorem frame_kernel : Cert.quiescent_Kernel := fun m ρ h =>
  Cert.Kernel.Pool.frame_run m ρ (Cert.Kernel.Pool.meets m fun c k => Cert.Kernel.Pool.nonneg_of_fn _ _ _ _ _ _ (h c) _)

/-- The idealized kernel's frame. -/
theorem frame_ideal : Cert.quiescent_KernelIdeal := fun m ρ h =>
  Cert.KernelIdeal.Pool.frame_run m ρ (Cert.KernelIdeal.Pool.meets m fun c k => Cert.KernelIdeal.Pool.nonneg_of_fn _ _ _ _ _ _ (h c) _)

/-- The reference's frame: its run leaves the arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the predicate, which its run does not need. -/
theorem frame_reference_named : Cert.quiescent_ReferenceIdeal_pre_batch_named := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference compute the same function over the extended reals: both end with the table of pooled entries. -/
theorem algebraic : Cert.algebraic_KernelIdeal_ReferenceIdeal := fun m ρ m' ρ' h agree => by
  refine ⟨fun c => Cert.KernelIdeal.Pool.pooledTable m c, ?_, ?_⟩
  · exact Cert.KernelIdeal.Pool.run_value m ρ fun c k => Cert.KernelIdeal.Pool.nonneg_of_fn _ _ _ _ _ _ (h c) _
  · refine (θ_run Cert.ReferenceIdeal.defs _ _).mono (fun r q c => ⟨(q c).1.trans ?_, (q c).2⟩)
      (Cert.ReferenceIdeal.Value.run (F := Ideal) m' ρ')
    obtain ⟨h0, h1, h2, h3, h4, h5⟩ := agree c
    exact Cert.Pooled.reference_eq_kernel m m' c h0 h1 h2 h3 h4 h5

theorem claim : Cert.Claim := ⟨Cert.Kernel.Gen.facts, Cert.KernelIdeal.Gen.facts, Cert.ReferenceIdeal.Gen.facts, Cert.Pre_batch_named.Gen.facts,
  frame_kernel, frame_ideal, frame_reference, frame_reference_named, trivial, algebraic⟩

end Cert.Proof

end
